-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x8192 .f32) (main_arg2 : FVec F S1x1024x64x128 .f32) (main_arg3 : FVec F S1x1024x64x128 .f32) (main_arg4 : FVec F S8192x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S2x1024x8x128 : Shape := ⟨4, ![2, 1024, 8, 128]⟩
abbrev S1792x1024 : Shape := ⟨2, ![1792, 1024]⟩
abbrev S2 : Shape := ⟨1, ![2]⟩
abbrev S6 : Shape := ⟨1, ![6]⟩
abbrev S1 : Shape := ⟨1, ![1]⟩
abbrev S_ : Shape := ⟨0, ![]⟩
abbrev S1x1024x8x128 : Shape := ⟨4, ![1, 1024, 8, 128]⟩
abbrev S1024x8x128 : Shape := ⟨3, ![1024, 8, 128]⟩
abbrev S512x512 : Shape := ⟨2, ![512, 512]⟩
abbrev S512x1024 : Shape := ⟨2, ![512, 1024]⟩
abbrev S512x128 : Shape := ⟨2, ![512, 128]⟩
abbrev S1x512x1x128 : Shape := ⟨4, ![1, 512, 1, 128]⟩
abbrev S512 : Shape := ⟨1, ![512]⟩
abbrev S512x1 : Shape := ⟨2, ![512, 1]⟩
abbrev S1x1024x1x128 : Shape := ⟨4, ![1, 1024, 1, 128]⟩
abbrev S1024x128 : Shape := ⟨2, ![1024, 128]⟩
abbrev S1x512x1024 : Shape := ⟨3, ![1, 512, 1024]⟩
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S2x1024x8x128, .f32⟩
  | .local _ .vmem, ⟨6, _⟩ => ⟨S1792x1024, .bf16⟩
  | .local _ .vmem, ⟨7, _⟩ => ⟨S1792x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v6 : BitVec 32 := Scalar.muli v2 c8_i32_2
  let c0_i32_10 : BitVec 32 := 0#32
  ![0, 0, v6.toNat, 0]
def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c1_i32_19 : BitVec 32 := 1#32
  let v21 : BitVec 32 := Scalar.xori v5 c1_i32_19
  let c1_i32_20 : BitVec 32 := 1#32
  let v22 : BitVec 32 := Scalar.shrui v21 c1_i32_20
  let c1_i32_21 : BitVec 32 := 1#32
  let v23 : BitVec 32 := Scalar.andi v22 c1_i32_21
  let v24 : BitVec 32 := Scalar.xori v21 v23
  let c1_i32_23 : BitVec 32 := 1#32
  let v25 : BitVec 32 := Scalar.muli v24 c1_i32_23
  let v26 : BitVec 32 := Scalar.addi c0_i32_24 v25
  v26.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32 : BitVec 32 := 2#32
  let v27 : BitVec 32 := Scalar.xori v5 c2_i32
  let c1_i32_25 : BitVec 32 := 1#32
  let v28 : BitVec 32 := Scalar.shrui v27 c1_i32_25
  let c1_i32_26 : BitVec 32 := 1#32
  let v29 : BitVec 32 := Scalar.andi v28 c1_i32_26
  let v30 : BitVec 32 := Scalar.xori v27 v29
  let c1_i32_28 : BitVec 32 := 1#32
  let v31 : BitVec 32 := Scalar.muli v30 c1_i32_28
  let v32 : BitVec 32 := Scalar.addi c0_i32_29 v31
  v32.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c4_i32 : BitVec 32 := 4#32
  let v33 : BitVec 32 := Scalar.xori v5 c4_i32
  let c1_i32_30 : BitVec 32 := 1#32
  let v34 : BitVec 32 := Scalar.shrui v33 c1_i32_30
  let c1_i32_31 : BitVec 32 := 1#32
  let v35 : BitVec 32 := Scalar.andi v34 c1_i32_31
  let v36 : BitVec 32 := Scalar.xori v33 v35
  let c1_i32_33 : BitVec 32 := 1#32
  let v37 : BitVec 32 := Scalar.muli v36 c1_i32_33
  let v38 : BitVec 32 := Scalar.addi c0_i32_34 v37
  v38.toNat
def k0_off2 (d0 : Dev nD) : Fin 3 → Nat :=
  let c0_325 : Index := 0#32
  let c0_i32_324 : BitVec 32 := 0#32
  let c1_i32_322 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_318 : BitVec 32 := 2#32
  let v543 : BitVec 32 := Scalar.shrui v5 c2_i32_318
  let c1_i32_319 : BitVec 32 := 1#32
  let v544 : BitVec 32 := Scalar.andi v543 c1_i32_319
  let v547 : BitVec 32 := Scalar.subi c1_i32_322 v544
  let c4_i32_323 : BitVec 32 := 4#32
  let v548 : BitVec 32 := Scalar.muli v547 c4_i32_323
  let v549 : BitVec 32 := Scalar.addi c0_i32_324 v548
  let c128_i32 : BitVec 32 := 128#32
  let v550 : BitVec 32 := Scalar.muli v549 c128_i32
  let v551 : Index := Scalar.indexCast v550
  let c0_326 : Index := 0#32
  ![0, v551.toNat, 0]
def k0_dev4 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c4_i32_329 : BitVec 32 := 4#32
  let v558 : BitVec 32 := Scalar.xori v5 c4_i32_329
  let c1_i32_330 : BitVec 32 := 1#32
  let v559 : BitVec 32 := Scalar.shrui v558 c1_i32_330
  let c1_i32_331 : BitVec 32 := 1#32
  let v560 : BitVec 32 := Scalar.andi v559 c1_i32_331
  let v561 : BitVec 32 := Scalar.xori v558 v560
  let c1_i32_334 : BitVec 32 := 1#32
  let v562 : BitVec 32 := Scalar.muli v561 c1_i32_334
  let v563 : BitVec 32 := Scalar.addi c0_i32_335 v562
  v563.toNat
def k0_off3 (d0 : Dev nD) : Fin 3 → Nat :=
  let c0_356 : Index := 0#32
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_318 : BitVec 32 := 2#32
  let v543 : BitVec 32 := Scalar.shrui v5 c2_i32_318
  let c1_i32_319 : BitVec 32 := 1#32
  let v544 : BitVec 32 := Scalar.andi v543 c1_i32_319
  let c4_i32_320 : BitVec 32 := 4#32
  let v545 : BitVec 32 := Scalar.muli v544 c4_i32_320
  let v546 : BitVec 32 := Scalar.addi c0_i32_321 v545
  let c128_i32_355 : BitVec 32 := 128#32
  let v580 : BitVec 32 := Scalar.muli v546 c128_i32_355
  let v581 : Index := Scalar.indexCast v580
  let c0_357 : Index := 0#32
  ![0, v581.toNat, 0]
def k0_off4 (d0 : Dev nD) : Fin 3 → Nat :=
  let c0_369 : Index := 0#32
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_318 : BitVec 32 := 2#32
  let v543 : BitVec 32 := Scalar.shrui v5 c2_i32_318
  let c1_i32_319 : BitVec 32 := 1#32
  let v544 : BitVec 32 := Scalar.andi v543 c1_i32_319
  let c4_i32_320 : BitVec 32 := 4#32
  let v545 : BitVec 32 := Scalar.muli v544 c4_i32_320
  let v546 : BitVec 32 := Scalar.addi c0_i32_321 v545
  let c1_i32_366 : BitVec 32 := 1#32
  let c1_i32_363 : BitVec 32 := 1#32
  let v592 : BitVec 32 := Scalar.shrui v5 c1_i32_363
  let c1_i32_364 : BitVec 32 := 1#32
  let v593 : BitVec 32 := Scalar.andi v592 c1_i32_364
  let v596 : BitVec 32 := Scalar.subi c1_i32_366 v593
  let c2_i32_367 : BitVec 32 := 2#32
  let v597 : BitVec 32 := Scalar.muli v596 c2_i32_367
  let v598 : BitVec 32 := Scalar.addi v546 v597
  let c128_i32_368 : BitVec 32 := 128#32
  let v599 : BitVec 32 := Scalar.muli v598 c128_i32_368
  let v600 : Index := Scalar.indexCast v599
  let c0_370 : Index := 0#32
  ![0, v600.toNat, 0]
def k0_dev5 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_373 : BitVec 32 := 2#32
  let v607 : BitVec 32 := Scalar.xori v5 c2_i32_373
  let c1_i32_374 : BitVec 32 := 1#32
  let v608 : BitVec 32 := Scalar.shrui v607 c1_i32_374
  let c1_i32_375 : BitVec 32 := 1#32
  let v609 : BitVec 32 := Scalar.andi v608 c1_i32_375
  let v610 : BitVec 32 := Scalar.xori v607 v609
  let c1_i32_378 : BitVec 32 := 1#32
  let v611 : BitVec 32 := Scalar.muli v610 c1_i32_378
  let v612 : BitVec 32 := Scalar.addi c0_i32_379 v611
  v612.toNat
def k0_off5 (d0 : Dev nD) : Fin 3 → Nat :=
  let c0_400 : Index := 0#32
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_318 : BitVec 32 := 2#32
  let v543 : BitVec 32 := Scalar.shrui v5 c2_i32_318
  let c1_i32_319 : BitVec 32 := 1#32
  let v544 : BitVec 32 := Scalar.andi v543 c1_i32_319
  let c4_i32_320 : BitVec 32 := 4#32
  let v545 : BitVec 32 := Scalar.muli v544 c4_i32_320
  let v546 : BitVec 32 := Scalar.addi c0_i32_321 v545
  let c1_i32_363 : BitVec 32 := 1#32
  let v592 : BitVec 32 := Scalar.shrui v5 c1_i32_363
  let c1_i32_364 : BitVec 32 := 1#32
  let v593 : BitVec 32 := Scalar.andi v592 c1_i32_364
  let c2_i32_365 : BitVec 32 := 2#32
  let v594 : BitVec 32 := Scalar.muli v593 c2_i32_365
  let v595 : BitVec 32 := Scalar.addi v546 v594
  let c128_i32_399 : BitVec 32 := 128#32
  let v629 : BitVec 32 := Scalar.muli v595 c128_i32_399
  let v630 : Index := Scalar.indexCast v629
  let c0_401 : Index := 0#32
  ![0, v630.toNat, 0]
def k0_off6 (d0 : Dev nD) : Fin 3 → Nat :=
  let c0_413 : Index := 0#32
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_318 : BitVec 32 := 2#32
  let v543 : BitVec 32 := Scalar.shrui v5 c2_i32_318
  let c1_i32_319 : BitVec 32 := 1#32
  let v544 : BitVec 32 := Scalar.andi v543 c1_i32_319
  let c4_i32_320 : BitVec 32 := 4#32
  let v545 : BitVec 32 := Scalar.muli v544 c4_i32_320
  let v546 : BitVec 32 := Scalar.addi c0_i32_321 v545
  let c1_i32_363 : BitVec 32 := 1#32
  let v592 : BitVec 32 := Scalar.shrui v5 c1_i32_363
  let c1_i32_364 : BitVec 32 := 1#32
  let v593 : BitVec 32 := Scalar.andi v592 c1_i32_364
  let c2_i32_365 : BitVec 32 := 2#32
  let v594 : BitVec 32 := Scalar.muli v593 c2_i32_365
  let v595 : BitVec 32 := Scalar.addi v546 v594
  let c1_i32_410 : BitVec 32 := 1#32
  let c0_i32_407 : BitVec 32 := 0#32
  let v641 : BitVec 32 := Scalar.shrui v5 c0_i32_407
  let c1_i32_408 : BitVec 32 := 1#32
  let v642 : BitVec 32 := Scalar.andi v641 c1_i32_408
  let v645 : BitVec 32 := Scalar.subi c1_i32_410 v642
  let c1_i32_411 : BitVec 32 := 1#32
  let v646 : BitVec 32 := Scalar.muli v645 c1_i32_411
  let v647 : BitVec 32 := Scalar.addi v595 v646
  let c128_i32_412 : BitVec 32 := 128#32
  let v648 : BitVec 32 := Scalar.muli v647 c128_i32_412
  let v649 : Index := Scalar.indexCast v648
  let c0_414 : Index := 0#32
  ![0, v649.toNat, 0]
def k0_dev6 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c1_i32_417 : BitVec 32 := 1#32
  let v656 : BitVec 32 := Scalar.xori v5 c1_i32_417
  let c1_i32_418 : BitVec 32 := 1#32
  let v657 : BitVec 32 := Scalar.shrui v656 c1_i32_418
  let c1_i32_419 : BitVec 32 := 1#32
  let v658 : BitVec 32 := Scalar.andi v657 c1_i32_419
  let v659 : BitVec 32 := Scalar.xori v656 v658
  let c1_i32_422 : BitVec 32 := 1#32
  let v660 : BitVec 32 := Scalar.muli v659 c1_i32_422
  let v661 : BitVec 32 := Scalar.addi c0_i32_423 v660
  v661.toNat
def k0_off7 (d0 : Dev nD) : Fin 3 → Nat :=
  let c0_443 : Index := 0#32
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_318 : BitVec 32 := 2#32
  let v543 : BitVec 32 := Scalar.shrui v5 c2_i32_318
  let c1_i32_319 : BitVec 32 := 1#32
  let v544 : BitVec 32 := Scalar.andi v543 c1_i32_319
  let c4_i32_320 : BitVec 32 := 4#32
  let v545 : BitVec 32 := Scalar.muli v544 c4_i32_320
  let v546 : BitVec 32 := Scalar.addi c0_i32_321 v545
  let c1_i32_363 : BitVec 32 := 1#32
  let v592 : BitVec 32 := Scalar.shrui v5 c1_i32_363
  let c1_i32_364 : BitVec 32 := 1#32
  let v593 : BitVec 32 := Scalar.andi v592 c1_i32_364
  let c2_i32_365 : BitVec 32 := 2#32
  let v594 : BitVec 32 := Scalar.muli v593 c2_i32_365
  let v595 : BitVec 32 := Scalar.addi v546 v594
  let c0_i32_407 : BitVec 32 := 0#32
  let v641 : BitVec 32 := Scalar.shrui v5 c0_i32_407
  let c1_i32_408 : BitVec 32 := 1#32
  let v642 : BitVec 32 := Scalar.andi v641 c1_i32_408
  let c1_i32_409 : BitVec 32 := 1#32
  let v643 : BitVec 32 := Scalar.muli v642 c1_i32_409
  let v644 : BitVec 32 := Scalar.addi v595 v643
  let c128_i32_442 : BitVec 32 := 128#32
  let v678 : BitVec 32 := Scalar.muli v644 c128_i32_442
  let v679 : Index := Scalar.indexCast v678
  let c0_444 : Index := 0#32
  ![0, v679.toNat, 0]
def k0_dev7 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c1_i32_456 : BitVec 32 := 1#32
  let v699 : BitVec 32 := Scalar.xori v5 c1_i32_456
  let c1_i32_457 : BitVec 32 := 1#32
  let v700 : BitVec 32 := Scalar.shrui v699 c1_i32_457
  let c1_i32_458 : BitVec 32 := 1#32
  let v701 : BitVec 32 := Scalar.andi v700 c1_i32_458
  let v702 : BitVec 32 := Scalar.xori v699 v701
  let c1_i32_461 : BitVec 32 := 1#32
  let v703 : BitVec 32 := Scalar.muli v702 c1_i32_461
  let v704 : BitVec 32 := Scalar.addi c0_i32_462 v703
  v704.toNat
def k0_off8 (d0 : Dev nD) : Fin 3 → Nat :=
  let c0_484 : Index := 0#32
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_318 : BitVec 32 := 2#32
  let v543 : BitVec 32 := Scalar.shrui v5 c2_i32_318
  let c1_i32_319 : BitVec 32 := 1#32
  let v544 : BitVec 32 := Scalar.andi v543 c1_i32_319
  let c4_i32_320 : BitVec 32 := 4#32
  let v545 : BitVec 32 := Scalar.muli v544 c4_i32_320
  let v546 : BitVec 32 := Scalar.addi c0_i32_321 v545
  let c1_i32_363 : BitVec 32 := 1#32
  let v592 : BitVec 32 := Scalar.shrui v5 c1_i32_363
  let c1_i32_364 : BitVec 32 := 1#32
  let v593 : BitVec 32 := Scalar.andi v592 c1_i32_364
  let c2_i32_365 : BitVec 32 := 2#32
  let v594 : BitVec 32 := Scalar.muli v593 c2_i32_365
  let v595 : BitVec 32 := Scalar.addi v546 v594
  let c0_i32_407 : BitVec 32 := 0#32
  let v641 : BitVec 32 := Scalar.shrui v5 c0_i32_407
  let c1_i32_408 : BitVec 32 := 1#32
  let v642 : BitVec 32 := Scalar.andi v641 c1_i32_408
  let c1_i32_409 : BitVec 32 := 1#32
  let v643 : BitVec 32 := Scalar.muli v642 c1_i32_409
  let v644 : BitVec 32 := Scalar.addi v595 v643
  let c1_i32_450 : BitVec 32 := 1#32
  let v690 : BitVec 32 := Scalar.xori v644 c1_i32_450
  let c128_i32_483 : BitVec 32 := 128#32
  let v723 : BitVec 32 := Scalar.muli v690 c128_i32_483
  let v724 : Index := Scalar.indexCast v723
  let c0_485 : Index := 0#32
  ![0, v724.toNat, 0]
def k0_off9 (d0 : Dev nD) : Fin 3 → Nat :=
  let c0_489 : Index := 0#32
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_318 : BitVec 32 := 2#32
  let v543 : BitVec 32 := Scalar.shrui v5 c2_i32_318
  let c1_i32_319 : BitVec 32 := 1#32
  let v544 : BitVec 32 := Scalar.andi v543 c1_i32_319
  let c4_i32_320 : BitVec 32 := 4#32
  let v545 : BitVec 32 := Scalar.muli v544 c4_i32_320
  let v546 : BitVec 32 := Scalar.addi c0_i32_321 v545
  let c1_i32_363 : BitVec 32 := 1#32
  let v592 : BitVec 32 := Scalar.shrui v5 c1_i32_363
  let c1_i32_364 : BitVec 32 := 1#32
  let v593 : BitVec 32 := Scalar.andi v592 c1_i32_364
  let c2_i32_365 : BitVec 32 := 2#32
  let v594 : BitVec 32 := Scalar.muli v593 c2_i32_365
  let v595 : BitVec 32 := Scalar.addi v546 v594
  let c0_i32_407 : BitVec 32 := 0#32
  let v641 : BitVec 32 := Scalar.shrui v5 c0_i32_407
  let c1_i32_408 : BitVec 32 := 1#32
  let v642 : BitVec 32 := Scalar.andi v641 c1_i32_408
  let c1_i32_409 : BitVec 32 := 1#32
  let v643 : BitVec 32 := Scalar.muli v642 c1_i32_409
  let v644 : BitVec 32 := Scalar.addi v595 v643
  let c1_i32_486 : BitVec 32 := 1#32
  let c_m1_i32 : BitVec 32 := 4294967295#32
  let v728 : BitVec 32 := Scalar.xori c1_i32_486 c_m1_i32
  let v729 : BitVec 32 := Scalar.andi v644 v728
  let c128_i32_488 : BitVec 32 := 128#32
  let v731 : BitVec 32 := Scalar.muli v729 c128_i32_488
  let v732 : Index := Scalar.indexCast v731
  let c0_490 : Index := 0#32
  ![0, v732.toNat, 0]
def k0_dev8 (d0 : Dev nD) : Nat :=
  let c0_i32_498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_492 : BitVec 32 := 2#32
  let v739 : BitVec 32 := Scalar.xori v5 c2_i32_492
  let c1_i32_493 : BitVec 32 := 1#32
  let v740 : BitVec 32 := Scalar.shrui v739 c1_i32_493
  let c1_i32_494 : BitVec 32 := 1#32
  let v741 : BitVec 32 := Scalar.andi v740 c1_i32_494
  let v742 : BitVec 32 := Scalar.xori v739 v741
  let c1_i32_497 : BitVec 32 := 1#32
  let v743 : BitVec 32 := Scalar.muli v742 c1_i32_497
  let v744 : BitVec 32 := Scalar.addi c0_i32_498 v743
  v744.toNat
def k0_off10 (d0 : Dev nD) : Fin 3 → Nat :=
  let c0_520 : Index := 0#32
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_318 : BitVec 32 := 2#32
  let v543 : BitVec 32 := Scalar.shrui v5 c2_i32_318
  let c1_i32_319 : BitVec 32 := 1#32
  let v544 : BitVec 32 := Scalar.andi v543 c1_i32_319
  let c4_i32_320 : BitVec 32 := 4#32
  let v545 : BitVec 32 := Scalar.muli v544 c4_i32_320
  let v546 : BitVec 32 := Scalar.addi c0_i32_321 v545
  let c1_i32_363 : BitVec 32 := 1#32
  let v592 : BitVec 32 := Scalar.shrui v5 c1_i32_363
  let c1_i32_364 : BitVec 32 := 1#32
  let v593 : BitVec 32 := Scalar.andi v592 c1_i32_364
  let c2_i32_365 : BitVec 32 := 2#32
  let v594 : BitVec 32 := Scalar.muli v593 c2_i32_365
  let v595 : BitVec 32 := Scalar.addi v546 v594
  let c0_i32_407 : BitVec 32 := 0#32
  let v641 : BitVec 32 := Scalar.shrui v5 c0_i32_407
  let c1_i32_408 : BitVec 32 := 1#32
  let v642 : BitVec 32 := Scalar.andi v641 c1_i32_408
  let c1_i32_409 : BitVec 32 := 1#32
  let v643 : BitVec 32 := Scalar.muli v642 c1_i32_409
  let v644 : BitVec 32 := Scalar.addi v595 v643
  let c1_i32_486 : BitVec 32 := 1#32
  let c_m1_i32 : BitVec 32 := 4294967295#32
  let v728 : BitVec 32 := Scalar.xori c1_i32_486 c_m1_i32
  let v729 : BitVec 32 := Scalar.andi v644 v728
  let c2_i32_487 : BitVec 32 := 2#32
  let v730 : BitVec 32 := Scalar.xori v729 c2_i32_487
  let c128_i32_519 : BitVec 32 := 128#32
  let v763 : BitVec 32 := Scalar.muli v730 c128_i32_519
  let v764 : Index := Scalar.indexCast v763
  let c0_521 : Index := 0#32
  ![0, v764.toNat, 0]
def k0_off11 (d0 : Dev nD) : Fin 3 → Nat :=
  let c0_526 : Index := 0#32
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_318 : BitVec 32 := 2#32
  let v543 : BitVec 32 := Scalar.shrui v5 c2_i32_318
  let c1_i32_319 : BitVec 32 := 1#32
  let v544 : BitVec 32 := Scalar.andi v543 c1_i32_319
  let c4_i32_320 : BitVec 32 := 4#32
  let v545 : BitVec 32 := Scalar.muli v544 c4_i32_320
  let v546 : BitVec 32 := Scalar.addi c0_i32_321 v545
  let c1_i32_363 : BitVec 32 := 1#32
  let v592 : BitVec 32 := Scalar.shrui v5 c1_i32_363
  let c1_i32_364 : BitVec 32 := 1#32
  let v593 : BitVec 32 := Scalar.andi v592 c1_i32_364
  let c2_i32_365 : BitVec 32 := 2#32
  let v594 : BitVec 32 := Scalar.muli v593 c2_i32_365
  let v595 : BitVec 32 := Scalar.addi v546 v594
  let c0_i32_407 : BitVec 32 := 0#32
  let v641 : BitVec 32 := Scalar.shrui v5 c0_i32_407
  let c1_i32_408 : BitVec 32 := 1#32
  let v642 : BitVec 32 := Scalar.andi v641 c1_i32_408
  let c1_i32_409 : BitVec 32 := 1#32
  let v643 : BitVec 32 := Scalar.muli v642 c1_i32_409
  let v644 : BitVec 32 := Scalar.addi v595 v643
  let c1_i32_486 : BitVec 32 := 1#32
  let c_m1_i32 : BitVec 32 := 4294967295#32
  let v728 : BitVec 32 := Scalar.xori c1_i32_486 c_m1_i32
  let v729 : BitVec 32 := Scalar.andi v644 v728
  let c2_i32_522 : BitVec 32 := 2#32
  let c_m1_i32_523 : BitVec 32 := 4294967295#32
  let v768 : BitVec 32 := Scalar.xori c2_i32_522 c_m1_i32_523
  let v769 : BitVec 32 := Scalar.andi v729 v768
  let c128_i32_525 : BitVec 32 := 128#32
  let v771 : BitVec 32 := Scalar.muli v769 c128_i32_525
  let v772 : Index := Scalar.indexCast v771
  let c0_527 : Index := 0#32
  ![0, v772.toNat, 0]
def k0_dev9 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c4_i32_529 : BitVec 32 := 4#32
  let v779 : BitVec 32 := Scalar.xori v5 c4_i32_529
  let c1_i32_530 : BitVec 32 := 1#32
  let v780 : BitVec 32 := Scalar.shrui v779 c1_i32_530
  let c1_i32_531 : BitVec 32 := 1#32
  let v781 : BitVec 32 := Scalar.andi v780 c1_i32_531
  let v782 : BitVec 32 := Scalar.xori v779 v781
  let c1_i32_533 : BitVec 32 := 1#32
  let v783 : BitVec 32 := Scalar.muli v782 c1_i32_533
  let v784 : BitVec 32 := Scalar.addi c0_i32_534 v783
  v784.toNat
def k0_off12 (d0 : Dev nD) : Fin 3 → Nat :=
  let c0_556 : Index := 0#32
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let v5 : BitVec 32 := Scalar.xori v2 v4
  let c2_i32_318 : BitVec 32 := 2#32
  let v543 : BitVec 32 := Scalar.shrui v5 c2_i32_318
  let c1_i32_319 : BitVec 32 := 1#32
  let v544 : BitVec 32 := Scalar.andi v543 c1_i32_319
  let c4_i32_320 : BitVec 32 := 4#32
  let v545 : BitVec 32 := Scalar.muli v544 c4_i32_320
  let v546 : BitVec 32 := Scalar.addi c0_i32_321 v545
  let c1_i32_363 : BitVec 32 := 1#32
  let v592 : BitVec 32 := Scalar.shrui v5 c1_i32_363
  let c1_i32_364 : BitVec 32 := 1#32
  let v593 : BitVec 32 := Scalar.andi v592 c1_i32_364
  let c2_i32_365 : BitVec 32 := 2#32
  let v594 : BitVec 32 := Scalar.muli v593 c2_i32_365
  let v595 : BitVec 32 := Scalar.addi v546 v594
  let c0_i32_407 : BitVec 32 := 0#32
  let v641 : BitVec 32 := Scalar.shrui v5 c0_i32_407
  let c1_i32_408 : BitVec 32 := 1#32
  let v642 : BitVec 32 := Scalar.andi v641 c1_i32_408
  let c1_i32_409 : BitVec 32 := 1#32
  let v643 : BitVec 32 := Scalar.muli v642 c1_i32_409
  let v644 : BitVec 32 := Scalar.addi v595 v643
  let c1_i32_486 : BitVec 32 := 1#32
  let c_m1_i32 : BitVec 32 := 4294967295#32
  let v728 : BitVec 32 := Scalar.xori c1_i32_486 c_m1_i32
  let v729 : BitVec 32 := Scalar.andi v644 v728
  let c2_i32_522 : BitVec 32 := 2#32
  let c_m1_i32_523 : BitVec 32 := 4294967295#32
  let v768 : BitVec 32 := Scalar.xori c2_i32_522 c_m1_i32_523
  let v769 : BitVec 32 := Scalar.andi v729 v768
  let c4_i32_524 : BitVec 32 := 4#32
  let v770 : BitVec 32 := Scalar.xori v769 c4_i32_524
  let c128_i32_555 : BitVec 32 := 128#32
  let v803 : BitVec 32 := Scalar.muli v770 c128_i32_555
  let v804 : Index := Scalar.indexCast v803
  let c0_557 : Index := 0#32
  ![0, v804.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1x1024x8192 : Shape := ⟨3, ![1, 1024, 8192]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x1024x64x128, .f32⟩
  | .hbm, ⟨3, _⟩ => ⟨S1x1024x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S1x64x1024x1024, .f32⟩
  | .hbm, ⟨51, _⟩ => ⟨S_, .f32⟩
  | .hbm, ⟨52, _⟩ => ⟨S1x64x1024x1024, .f32⟩
  | .hbm, ⟨53, _⟩ => ⟨S1x64x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S1x64x1024x1024, .i1⟩
  | .hbm, ⟨58, _⟩ => ⟨S1x64x1024x1024, .f32⟩
  | .hbm, ⟨59, _⟩ => ⟨S1x64x1024x1024, .f32⟩
  | .hbm, ⟨60, _⟩ => ⟨S_, .f32⟩
  | .hbm, ⟨61, _⟩ => ⟨S1x64x1024, .f32⟩
  | .hbm, ⟨62, _⟩ => ⟨S1x64x1024x1, .f32⟩
  | .hbm, ⟨63, _⟩ => ⟨S1x64x1024x1024, .f32⟩
  | .hbm, ⟨64, _⟩ => ⟨S1x64x1024x1024, .f32⟩
  | .hbm, ⟨65, _⟩ => ⟨S1x64x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x64x1024, .f32⟩
  | .hbm, ⟨71, _⟩ => ⟨S1x64x1024x1, .f32⟩
  | .hbm, ⟨72, _⟩ => ⟨S_, .f32⟩
  | .hbm, ⟨73, _⟩ => ⟨S_, .f32⟩
  | .hbm, ⟨74, _⟩ => ⟨S1x64x1024x1, .i1⟩
  | .hbm, ⟨75, _⟩ => ⟨S1x64x1024x1, .f32⟩
  | .hbm, ⟨76, _⟩ => ⟨S1x64x1024x1, .f32⟩
  | .hbm, ⟨77, _⟩ => ⟨S1x64x1024x1024, .f32⟩
  | .hbm, ⟨78, _⟩ => ⟨S1x64x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x64x1024x1024, .i1⟩
  | .hbm, ⟨83, _⟩ => ⟨S1x64x1024x1024, .f32⟩
  | .hbm, ⟨84, _⟩ => ⟨S1x64x1024x1024, .f32⟩
  | .hbm, ⟨85, _⟩ => ⟨S1x64x128x1024, .f32⟩
  | .hbm, ⟨86, _⟩ => ⟨S1x1024x64x128, .f32⟩
  | .hbm, ⟨87, _⟩ => ⟨S1x1024x8192, .f32⟩
  | .hbm, ⟨88, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Proto.lean ====
/-
  The exchange's protocol: partners, slots, cells, the schedule of the semaphores and its tables, what a device owes at
  launch and the levels that order the waits.
-/
module

public import proofs.«01_k».proof.Proof.Gen.KernelIdeal.Launch
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

set_option maxRecDepth 16384

noncomputable section

namespace Cert.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the exchange's rounds, the transfers' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## Partners -/

/-- A device's place in the Gray order of the ring (an involution on `0 … 7`). -/
def gr (p : ℕ) : ℕ := p ^^^ ((p >>> 1) &&& 1)

/-- The device whose place differs from `c`'s in bit `b`. -/
def par (b : Fin 3) (c : Dev nD) : Dev nD := ⟨gr (gr c.val ^^^ (1 <<< b.val)), by revert c b; decide⟩

theorem par_par (b : Fin 3) (c : Dev nD) : par b (par b c) = c := by revert c b; decide
theorem par_ne (b : Fin 3) (c : Dev nD) : par b c ≠ c := by revert c b; decide

/-- The swap with the bit-`b` partner, as a permutation. -/
def swap (b : Fin 3) : Dev nD ≃ Dev nD := ⟨par b, par b, par_par b, par_par b⟩

theorem dev1_eq (c : Dev nD) : (⟨k0_dev1 c, k0_dev1_lt c⟩ : Dev nD) = par 0 c := by revert c; decide
theorem dev2_eq (c : Dev nD) : (⟨k0_dev2 c, k0_dev2_lt c⟩ : Dev nD) = par 1 c := by revert c; decide
theorem dev3_eq (c : Dev nD) : (⟨k0_dev3 c, k0_dev3_lt c⟩ : Dev nD) = par 2 c := by revert c; decide
theorem dev4_eq (c : Dev nD) : (⟨k0_dev4 c, k0_dev4_lt c⟩ : Dev nD) = par 2 c := by revert c; decide
theorem dev5_eq (c : Dev nD) : (⟨k0_dev5 c, k0_dev5_lt c⟩ : Dev nD) = par 1 c := by revert c; decide
theorem dev6_eq (c : Dev nD) : (⟨k0_dev6 c, k0_dev6_lt c⟩ : Dev nD) = par 0 c := by revert c; decide
theorem dev7_eq (c : Dev nD) : (⟨k0_dev7 c, k0_dev7_lt c⟩ : Dev nD) = par 0 c := by revert c; decide
theorem dev8_eq (c : Dev nD) : (⟨k0_dev8 c, k0_dev8_lt c⟩ : Dev nD) = par 1 c := by revert c; decide
theorem dev9_eq (c : Dev nD) : (⟨k0_dev9 c, k0_dev9_lt c⟩ : Dev nD) = par 2 c := by revert c; decide

/-! ## The six slots of the send and of the receive buffer -/

abbrev kvM : Memref sig .tc .vmem S2x1024x8x128 .f32 := Memref.whole cc0_scratch1
abbrev sndM : Memref sig .tc .vmem S1792x1024 .bf16 := Memref.whole cc0_scratch2
abbrev rcvM : Memref sig .tc .vmem S1792x1024 .bf16 := Memref.whole cc0_scratch3

abbrev rc0 : Rect S1792x1024 := Rect.unit (s := S1792x1024) ![0, 0] S512x1024.size inb_S1792x1024_S512x1024_0_0
abbrev rc1 : Rect S1792x1024 := Rect.unit (s := S1792x1024) ![512, 0] S256x1024.size inb_S1792x1024_S256x1024_512_0
abbrev rc2 : Rect S1792x1024 := Rect.unit (s := S1792x1024) ![768, 0] S128x1024.size inb_S1792x1024_S128x1024_768_0
abbrev rc3 : Rect S1792x1024 := Rect.unit (s := S1792x1024) ![896, 0] S128x1024.size inb_S1792x1024_S128x1024_896_0
abbrev rc4 : Rect S1792x1024 := Rect.unit (s := S1792x1024) ![1024, 0] S256x1024.size inb_S1792x1024_S256x1024_1024_0
abbrev rc5 : Rect S1792x1024 := Rect.unit (s := S1792x1024) ![1280, 0] S512x1024.size inb_S1792x1024_S512x1024_1280_0

abbrev sM0 : Memref sig .tc .vmem S512x1024 .bf16 := sndM.slice rc0 (fun _ => rfl)
abbrev sM1 : Memref sig .tc .vmem S256x1024 .bf16 := sndM.slice rc1 (fun _ => rfl)
abbrev sM2 : Memref sig .tc .vmem S128x1024 .bf16 := sndM.slice rc2 (fun _ => rfl)
abbrev sM3 : Memref sig .tc .vmem S128x1024 .bf16 := sndM.slice rc3 (fun _ => rfl)
abbrev sM4 : Memref sig .tc .vmem S256x1024 .bf16 := sndM.slice rc4 (fun _ => rfl)
abbrev sM5 : Memref sig .tc .vmem S512x1024 .bf16 := sndM.slice rc5 (fun _ => rfl)
abbrev rM0 : Memref sig .tc .vmem S512x1024 .bf16 := rcvM.slice rc0 (fun _ => rfl)
abbrev rM1 : Memref sig .tc .vmem S256x1024 .bf16 := rcvM.slice rc1 (fun _ => rfl)
abbrev rM2 : Memref sig .tc .vmem S128x1024 .bf16 := rcvM.slice rc2 (fun _ => rfl)
abbrev rM3 : Memref sig .tc .vmem S128x1024 .bf16 := rcvM.slice rc3 (fun _ => rfl)
abbrev rM4 : Memref sig .tc .vmem S256x1024 .bf16 := rcvM.slice rc4 (fun _ => rfl)
abbrev rM5 : Memref sig .tc .vmem S512x1024 .bf16 := rcvM.slice rc5 (fun _ => rfl)

/-! ## The cells -/

/-- The semaphore of send slot `k`, of receive slot `k`, and the barrier's. -/
abbrev sS (k : Fin 6) : DmaSem sig := ⟨6 + k.val, by have := k.isLt; show _ < 18; omega⟩
abbrev rS (k : Fin 6) : DmaSem sig := ⟨12 + k.val, by have := k.isLt; show _ < 18; omega⟩
abbrev sCell (k : Fin 6) (c : Dev nD) : GSem nD τ sig := ((c : Thread nD τ), .dma (sS k))
abbrev rCell (k : Fin 6) (c : Dev nD) : GSem nD τ sig := ((c : Thread nD τ), .dma (rS k))
abbrev bCell (c : Dev nD) : GSem nD τ sig := ((c : Thread nD τ), .reg barrier0)

theorem sem_s0 : ((cc0_scratch5.slice (Rect.unit (s := S6) ![0] S1.size inb_S6_S1_0)).squeeze S_ squeezes_S1_S_).sem = sS 0 := by decide
theorem sem_s1 : ((cc0_scratch5.slice (Rect.unit (s := S6) ![1] S1.size inb_S6_S1_1)).squeeze S_ squeezes_S1_S_).sem = sS 1 := by decide
theorem sem_s2 : ((cc0_scratch5.slice (Rect.unit (s := S6) ![2] S1.size inb_S6_S1_2)).squeeze S_ squeezes_S1_S_).sem = sS 2 := by decide
theorem sem_s3 : ((cc0_scratch5.slice (Rect.unit (s := S6) ![3] S1.size inb_S6_S1_3)).squeeze S_ squeezes_S1_S_).sem = sS 3 := by decide
theorem sem_s4 : ((cc0_scratch5.slice (Rect.unit (s := S6) ![4] S1.size inb_S6_S1_4)).squeeze S_ squeezes_S1_S_).sem = sS 4 := by decide
theorem sem_s5 : ((cc0_scratch5.slice (Rect.unit (s := S6) ![5] S1.size inb_S6_S1_5)).squeeze S_ squeezes_S1_S_).sem = sS 5 := by decide
theorem sem_r0 : ((cc0_scratch6.slice (Rect.unit (s := S6) ![0] S1.size inb_S6_S1_0)).squeeze S_ squeezes_S1_S_).sem = rS 0 := by decide
theorem sem_r1 : ((cc0_scratch6.slice (Rect.unit (s := S6) ![1] S1.size inb_S6_S1_1)).squeeze S_ squeezes_S1_S_).sem = rS 1 := by decide
theorem sem_r2 : ((cc0_scratch6.slice (Rect.unit (s := S6) ![2] S1.size inb_S6_S1_2)).squeeze S_ squeezes_S1_S_).sem = rS 2 := by decide
theorem sem_r3 : ((cc0_scratch6.slice (Rect.unit (s := S6) ![3] S1.size inb_S6_S1_3)).squeeze S_ squeezes_S1_S_).sem = rS 3 := by decide
theorem sem_r4 : ((cc0_scratch6.slice (Rect.unit (s := S6) ![4] S1.size inb_S6_S1_4)).squeeze S_ squeezes_S1_S_).sem = rS 4 := by decide
theorem sem_r5 : ((cc0_scratch6.slice (Rect.unit (s := S6) ![5] S1.size inb_S6_S1_5)).squeeze S_ squeezes_S1_S_).sem = rS 5 := by decide

/-! ## What the landings hand over -/

/-- What each device sends in each of the six steps. -/
structure Msgs (F : FTy → Type) [FloatOps F] where
  m0 : Dev nD → FVec F S512x1024 .bf16
  m1 : Dev nD → FVec F S256x1024 .bf16
  m2 : Dev nD → FVec F S128x1024 .bf16
  m3 : Dev nD → FVec F S128x1024 .bf16
  m4 : Dev nD → FVec F S256x1024 .bf16
  m5 : Dev nD → FVec F S512x1024 .bf16

/-- Device `c` holds the elements of `M`, which read `X`. -/
def heldAt {s : Shape} (M : Memref sig .tc .vmem s .bf16) (c : Dev nD) (X : FVec F s .bf16) : sProp 𝕄 :=
  M.view.loc (c : Thread nD τ) ↦[M.view.set]{fullShare} M.view.rep X
/-- Device `c` holds the elements of `M`, whatever they hold. -/
def heldAny {s : Shape} (M : Memref sig .tc .vmem s .bf16) (c : Dev nD) : sProp 𝕄 :=
  iprop(∃ f : Buf (Elt F) (M.view.loc (c : Thread nD τ)), M.view.loc (c : Thread nD τ) ↦[M.view.set]{fullShare} f)

instance heldAt_storable {s : Shape} (M : Memref sig .tc .vmem s .bf16) (c : Dev nD) (X : FVec F s .bf16) :
    BI.Storable (upEmb : UEmb _ 𝕄) (heldAt M c X) := by unfold heldAt; infer_instance
instance heldAny_storable {s : Shape} (M : Memref sig .tc .vmem s .bf16) (c : Dev nD) :
    BI.Storable (upEmb : UEmb _ 𝕄) (heldAny (F := F) M c) := by unfold heldAny; infer_instance

/-- The barrier's duty `b` at `c`: the bit-`b` partner's receive slots of the two steps over bit `b`. -/
def barPay (c : Dev nD) : Fin 3 → sProp 𝕄
  | 0 => iprop(heldAny (F := F) rM2 (par 0 c) ∗ heldAny (F := F) rM3 (par 0 c))
  | 1 => iprop(heldAny (F := F) rM1 (par 1 c) ∗ heldAny (F := F) rM4 (par 1 c))
  | 2 => iprop(heldAny (F := F) rM0 (par 2 c) ∗ heldAny (F := F) rM5 (par 2 c))

/-- A send semaphore hands the slot back; a receive semaphore hands the slot over, holding what the partner sent. -/
def dmaPay (Y : Msgs F) (c : Dev nD) : ℕ → sProp 𝕄
  | 6 => heldAny (F := F) sM0 c
  | 7 => heldAny (F := F) sM1 c
  | 8 => heldAny (F := F) sM2 c
  | 9 => heldAny (F := F) sM3 c
  | 10 => heldAny (F := F) sM4 c
  | 11 => heldAny (F := F) sM5 c
  | 12 => heldAt rM0 c (Y.m0 (par 2 c))
  | 13 => heldAt rM1 c (Y.m1 (par 1 c))
  | 14 => heldAt rM2 c (Y.m2 (par 0 c))
  | 15 => heldAt rM3 c (Y.m3 (par 0 c))
  | 16 => heldAt rM4 c (Y.m4 (par 1 c))
  | 17 => heldAt rM5 c (Y.m5 (par 2 c))
  | _ => iprop(emp)

instance barPay_storable (c : Dev nD) (b : Fin 3) : BI.Storable (upEmb : UEmb _ 𝕄) (barPay (F := F) c b) := by
  unfold barPay; split <;> infer_instance
instance dmaPay_storable (Y : Msgs F) (c : Dev nD) (n : ℕ) : BI.Storable (upEmb : UEmb _ 𝕄) (dmaPay Y c n) := by
  unfold dmaPay; split <;> infer_instance

/-- What each slot's transfer credits. -/
def amt (k : ℕ) : ℕ :=
  if k = 0 ∨ k = 5 then rM0.view.dmaCredit else if k = 1 ∨ k = 4 then rM1.view.dmaCredit else rM2.view.dmaCredit

theorem amt_pos (k : ℕ) : 0 < amt k := by
  unfold amt; split
  · exact View.dmaCredit_pos _ (by decide)
  · split <;> exact View.dmaCredit_pos _ (by decide)

/-- The semaphores of the exchange. -/
def isX : SemLoc sig → Bool
  | .reg s => decide (s = barrier0)
  | .dma q => decide (6 ≤ q.val)

def xDuties : SemLoc sig → Finset (Fin 3)
  | .reg s => if s = barrier0 then Finset.univ else ∅
  | .dma q => if 6 ≤ q.val then {0} else ∅

def xAmount : SemLoc sig → ℕ
  | .reg _ => 1
  | .dma q => amt (q.val % 6)

def xPay (Y : Msgs F) (c : Dev nD) : SemLoc sig → Fin 3 → sProp 𝕄
  | .reg _, b => barPay (F := F) c b
  | .dma q, _ => dmaPay Y c q.val

/-- The schedule: one round on each cell of the exchange. -/
def Rd (Y : Msgs F) : Rounds.Schedule (GSem nD τ sig) (Fin 3) 𝕄 where
  duties g r := if r = 0 ∧ g.1.2 = .tc then xDuties g.2 else ∅
  unitless _ := False
  amount g _ _ := xAmount g.2
  payload g _ d := xPay Y g.1.1 g.2 d
  amount_pos g _ _ _ := by
    rcases g with ⟨t, s | q⟩
    · exact Nat.one_pos
    · exact amt_pos _

instance Rd_payload_storable (Y : Msgs F) (g : GSem nD τ sig) (r : ℕ) (d : Fin 3) :
    BI.Storable (upEmb : UEmb _ 𝕄) ((Rd Y).payload g r d) := by
  show BI.Storable upEmb (xPay Y g.1.1 g.2 d)
  rcases g with ⟨t, s | q⟩
  · exact barPay_storable _ _
  · exact dmaPay_storable _ _ _

section Tables
variable (Y : Msgs F) (c : Dev nD)

theorem duties_b : (Rd Y).duties (bCell c) 0 = Finset.univ := by
  dsimp only [Rd]; rw [if_pos ⟨rfl, rfl⟩]; rfl
theorem duties_s (k : Fin 6) : (Rd Y).duties (sCell k c) 0 = {0} := by
  dsimp only [Rd]; rw [if_pos ⟨rfl, rfl⟩]; exact if_pos (Nat.le_add_right 6 _)
theorem duties_r (k : Fin 6) : (Rd Y).duties (rCell k c) 0 = {0} := by
  dsimp only [Rd]; rw [if_pos ⟨rfl, rfl⟩]; exact if_pos (by show 6 ≤ 12 + k.val; omega)
theorem duties_later (g : GSem nD τ sig) : ∀ r, 1 ≤ r → (Rd Y).duties g r = ∅ :=
  fun r hr => by dsimp only [Rd]; exact if_neg fun h => by omega

theorem amount_b (b : Fin 3) : (Rd Y).amount (bCell c) 0 b = 1 := rfl
theorem amount_s (k : Fin 6) (d : Fin 3) : (Rd Y).amount (sCell k c) 0 d = amt k.val := by
  show amt ((6 + k.val) % 6) = amt k.val
  congr 1; have := k.isLt; omega
theorem amount_r (k : Fin 6) (d : Fin 3) : (Rd Y).amount (rCell k c) 0 d = amt k.val := by
  show amt ((12 + k.val) % 6) = amt k.val
  congr 1; have := k.isLt; omega

theorem expect_b : (Rd Y).expect (bCell c) 0 = 3 := by
  unfold Schedule.expect Schedule.amountOf
  rw [duties_b]; simp only [amount_b]; rfl
theorem expect_s (k : Fin 6) : (Rd Y).expect (sCell k c) 0 = amt k.val := by
  unfold Schedule.expect Schedule.amountOf; rw [duties_s, Finset.sum_singleton, amount_s]
theorem expect_r (k : Fin 6) : (Rd Y).expect (rCell k c) 0 = amt k.val := by
  unfold Schedule.expect Schedule.amountOf; rw [duties_r, Finset.sum_singleton, amount_r]

theorem payload_b (b : Fin 3) : (Rd Y).payload (bCell c) 0 b = barPay (F := F) c b := rfl
theorem payload_s (k : Fin 6) (d : Fin 3) : (Rd Y).payload (sCell k c) 0 d = dmaPay Y c (6 + k.val) := rfl
theorem payload_r (k : Fin 6) (d : Fin 3) : (Rd Y).payload (rCell k c) 0 d = dmaPay Y c (12 + k.val) := rfl

theorem rest_b : bigSep ((Rd Y).duties (bCell c) 0 \ ∅) (fun b => (Rd Y).payload (bCell c) 0 b)
    = iprop(barPay (F := F) c 0 ∗ barPay (F := F) c 1 ∗ barPay (F := F) c 2) := by
  rw [Finset.sdiff_empty, duties_b]
  exact bigSep_univ_eq_bigSepL [(0 : Fin 3), (1 : Fin 3), (2 : Fin 3)] (by decide) (by decide) _
theorem rest_s (k : Fin 6) : bigSep ((Rd Y).duties (sCell k c) 0 \ ∅) (fun d => (Rd Y).payload (sCell k c) 0 d) = dmaPay Y c (6 + k.val) := by
  rw [Finset.sdiff_empty, duties_s, bigSep_singleton, payload_s]
theorem rest_r (k : Fin 6) : bigSep ((Rd Y).duties (rCell k c) 0 \ ∅) (fun d => (Rd Y).payload (rCell k c) 0 d) = dmaPay Y c (12 + k.val) := by
  rw [Finset.sdiff_empty, duties_r, bigSep_singleton, payload_r]

end Tables

/-! ## What each device owes at launch; the levels -/

/-- The bit of step `k`: the bits 2, 1, 0 going down, then 0, 1, 2 going up. -/
def bit : Fin 6 → Fin 3 := ![2, 1, 0, 0, 1, 2]

/-- What `c` still owes before step `k` (steps `k … 5`). -/
def Ow (c : Dev nD) : ℕ → CellTallies nD τ sig Unit
  | 0 => tallyAt (rCell 5 (par 2 c)) () (amt 5) + tallyAt (rCell 4 (par 1 c)) () (amt 4) + tallyAt (rCell 3 (par 0 c)) () (amt 3)
      + tallyAt (rCell 2 (par 0 c)) () (amt 2) + tallyAt (rCell 1 (par 1 c)) () (amt 1) + tallyAt (rCell 0 (par 2 c)) () (amt 0)
  | 1 => tallyAt (rCell 5 (par 2 c)) () (amt 5) + tallyAt (rCell 4 (par 1 c)) () (amt 4) + tallyAt (rCell 3 (par 0 c)) () (amt 3)
      + tallyAt (rCell 2 (par 0 c)) () (amt 2) + tallyAt (rCell 1 (par 1 c)) () (amt 1)
  | 2 => tallyAt (rCell 5 (par 2 c)) () (amt 5) + tallyAt (rCell 4 (par 1 c)) () (amt 4) + tallyAt (rCell 3 (par 0 c)) () (amt 3)
      + tallyAt (rCell 2 (par 0 c)) () (amt 2)
  | 3 => tallyAt (rCell 5 (par 2 c)) () (amt 5) + tallyAt (rCell 4 (par 1 c)) () (amt 4) + tallyAt (rCell 3 (par 0 c)) () (amt 3)
  | 4 => tallyAt (rCell 5 (par 2 c)) () (amt 5) + tallyAt (rCell 4 (par 1 c)) () (amt 4)
  | 5 => tallyAt (rCell 5 (par 2 c)) () (amt 5)
  | _ => 0

/-- What `c` owes at launch: the six landings, and a unit at each partner's barrier. -/
def O₀ (c : Dev nD) : CellTallies nD τ sig Unit :=
  Ow c 0 + tallyAt (bCell (par 2 c)) () 1 + tallyAt (bCell (par 1 c)) () 1 + tallyAt (bCell (par 0 c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier's level is 1, receive slot `k`'s is `2 + k`; all else is level 0. -/
def slv : SemLoc sig → ℕ
  | .reg s => if s = barrier0 then 1 else 0
  | .dma q => if 12 ≤ q.val then q.val - 10 else 0
def lv (g : GSem nD τ sig) (_ : Unit) : ℕ := slv g.2

theorem lv_r (k : Fin 6) (c : Dev nD) (u : Unit) : lv (rCell k c) u = 2 + k.val := by
  show (if 12 ≤ 12 + k.val then 12 + k.val - 10 else 0) = _
  rw [if_pos (by omega)]; omega
theorem lv_b (c : Dev nD) (u : Unit) : lv (bCell c) u = 1 := rfl

theorem tally_pos {g₀ g : GSem nD τ sig} {u : Unit} {n : ℕ} (h : 0 < (tallyAt g₀ () n : CellTallies nD τ sig Unit) g u) : g = g₀ := by
  rw [tallyAt_apply] at h
  by_contra hn
  rw [if_neg fun h' => hn h'.1] at h
  exact Nat.lt_irrefl 0 h

theorem add_pos {A B : CellTallies nD τ sig Unit} {g : GSem nD τ sig} {u : Unit} (h : 0 < (A + B) g u) : 0 < A g u ∨ 0 < B g u := by
  rw [Pi.add_apply, Finsupp.add_apply] at h
  omega

/-- Every cell owed before step `k` is a receive cell of a step `k` or later. -/
theorem Ow_pos {c : Dev nD} {k : ℕ} {g : GSem nD τ sig} {u : Unit} (h : 0 < Ow c k g u) :
    ∃ (j : Fin 6) (d : Dev nD), k ≤ j.val ∧ g = rCell j d := by
  match k with
  | 0 =>
    rcases add_pos h with h | h; rcases add_pos h with h | h; rcases add_pos h with h | h; rcases add_pos h with h | h; rcases add_pos h with h | h
    all_goals exact ⟨_, _, Nat.zero_le _, tally_pos h⟩
  | 1 =>
    rcases add_pos h with h | h; rcases add_pos h with h | h; rcases add_pos h with h | h; rcases add_pos h with h | h
    all_goals exact ⟨_, _, by decide, tally_pos h⟩
  | 2 =>
    rcases add_pos h with h | h; rcases add_pos h with h | h; rcases add_pos h with h | h
    all_goals exact ⟨_, _, by decide, tally_pos h⟩
  | 3 =>
    rcases add_pos h with h | h; rcases add_pos h with h | h
    all_goals exact ⟨_, _, by decide, tally_pos h⟩
  | 4 =>
    rcases add_pos h with h | h
    all_goals exact ⟨_, _, by decide, tally_pos h⟩
  | 5 => exact ⟨_, _, by decide, tally_pos h⟩
  | _ + 6 => exact absurd h (Nat.lt_irrefl 0)

theorem O₀_pos {c : Dev nD} {g : GSem nD τ sig} {u : Unit} (h : 0 < O₀ c g u) :
    (∃ (j : Fin 6) (d : Dev nD), g = rCell j d) ∨ ∃ d : Dev nD, g = bCell d := by
  rcases add_pos h with h | h; rcases add_pos h with h | h; rcases add_pos h with h | h
  · obtain ⟨j, d, -, e⟩ := Ow_pos h; exact .inl ⟨j, d, e⟩
  all_goals exact .inr ⟨_, tally_pos h⟩

/-- A cell of a level below the receive cells still owed may be waited on. -/
theorem mayWait_Ow (c : Dev nD) (k : ℕ) (sm : SemLoc sig) (hs : slv sm < 2 + k) :
    (levAts L lv : sProp 𝕄) ⊢ MayWait (c : Thread nD τ) sm () (Ow c k) :=
  MayOwe.of_cut (L := L) (lev := lv) (slv sm) (fun p hp => by rw [Finset.mem_singleton.mp hp, L_tc]; exact Finset.mem_singleton_self _)
    (fun g u hg => by obtain ⟨j, d, -, rfl⟩ := Ow_pos hg; exact Finset.mem_singleton_self _)
    (fun p hp => by rw [Finset.mem_singleton.mp hp]; exact le_refl _)
    (fun g u hg => by obtain ⟨j, d, hj, rfl⟩ := Ow_pos hg; rw [lv_r]; omega)

/-- A cell of level 0 may be waited on owing everything, and owing nothing. -/
theorem mayWait_O₀ (c : Dev nD) (sm : SemLoc sig) (hs : slv sm = 0) (O : CellTallies nD τ sig Unit) (hO : O = O₀ c ∨ O = 0) :
    (levAts L lv : sProp 𝕄) ⊢ MayWait (c : Thread nD τ) sm () O := by
  rcases hO with rfl | rfl
  · exact MayOwe.of_cut (L := L) (lev := lv) 0 (fun p hp => by rw [Finset.mem_singleton.mp hp, L_tc]; exact Finset.mem_singleton_self _)
      (fun g u hg => by rcases O₀_pos hg with ⟨j, d, rfl⟩ | ⟨d, rfl⟩ <;> exact Finset.mem_singleton_self _)
      (fun p hp => by rw [Finset.mem_singleton.mp hp]; exact le_of_eq hs)
      (fun g u hg => by
        rcases O₀_pos hg with ⟨j, d, rfl⟩ | ⟨d, rfl⟩
        · rw [lv_r]; omega
        · rw [lv_b]; decide)
  · rw [MayWait_zero]; iintro -; iempintro

end Cert.Xchg

end
-- ==== Proof.Steps.lean ====
/-
  The exchange's steps: the cells' invariants and what each device holds of them at the start, and one rule each for a
  barrier signal, the barrier wait, a transfer to a partner, and the waits on a send and on a receive semaphore.
-/
module

public import proofs.«01_k».proof.Proof.Proto
public import Idealize.ShloMosaic.Lib.Exec
public import Idealize.ShloMosaic.Lib.VecWindow

@[expose] public section

set_option maxRecDepth 16384

noncomputable section

namespace Cert.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
abbrev 𝒱₀ : Variants := Variants.none

/-! ## The cells by name -/

/-- A device's exchange cells: the barrier, the send semaphores, the receive semaphores. -/
abbrev CI : Type := Unit ⊕ Fin 6 ⊕ Fin 6

def csem : CI → SemLoc sig
  | .inl _ => .reg barrier0
  | .inr (.inl k) => .dma (sS k)
  | .inr (.inr k) => .dma (rS k)

abbrev kcell (ck : Dev nD × CI) : GSem nD τ sig := ((ck.1 : Thread nD τ), csem ck.2)

variable (Y : Msgs F) (K : Dev nD × CI → ℕ)

/-- Every exchange cell's invariant, each cell at round 0 or later. -/
def invAll : sProp 𝕄 :=
  bigSep (Finset.univ : Finset (Dev nD × CI)) fun ck => iprop(cellInv ER (Rd Y) (K ck) (kcell ck) ∗ reached ER (kcell ck) 0)

instance invAll_persistent : BI.Persistent (invAll Y K) := by unfold invAll; infer_instance

theorem inv_at (ck : Dev nD × CI) : invAll Y K ⊢ iprop(cellInv ER (Rd Y) (K ck) (kcell ck) ∗ reached ER (kcell ck) 0) :=
  bigSep_elim (Finset.mem_univ ck)

/-! ## What a device holds of the protocol at the start -/

/-- The tokens of the duties `c` pays: a unit at each partner's barrier, its own send cells, its partners' receive cells. -/
def payToks (c : Dev nD) : sProp 𝕄 :=
  iprop((dutyTok ER (bCell (par 0 c)) 0 (0 : Fin 3) ∗ dutyTok ER (bCell (par 1 c)) 0 (1 : Fin 3) ∗ dutyTok ER (bCell (par 2 c)) 0 (2 : Fin 3))
    ∗ (dutyTok ER (sCell 0 c) 0 (0 : Fin 3) ∗ dutyTok ER (sCell 1 c) 0 (0 : Fin 3) ∗ dutyTok ER (sCell 2 c) 0 (0 : Fin 3)
      ∗ dutyTok ER (sCell 3 c) 0 (0 : Fin 3) ∗ dutyTok ER (sCell 4 c) 0 (0 : Fin 3) ∗ dutyTok ER (sCell 5 c) 0 (0 : Fin 3))
    ∗ (dutyTok ER (rCell 0 (par 2 c)) 0 (0 : Fin 3) ∗ dutyTok ER (rCell 1 (par 1 c)) 0 (0 : Fin 3) ∗ dutyTok ER (rCell 2 (par 0 c)) 0 (0 : Fin 3)
      ∗ dutyTok ER (rCell 3 (par 0 c)) 0 (0 : Fin 3) ∗ dutyTok ER (rCell 4 (par 1 c)) 0 (0 : Fin 3) ∗ dutyTok ER (rCell 5 (par 2 c)) 0 (0 : Fin 3)))

/-- The positions of `c` at its own cells: the start of round 0. -/
def poss (c : Dev nD) : sProp 𝕄 :=
  iprop(atPos ER (bCell c) 0 ∅ 0
    ∗ (atPos ER (sCell 0 c) 0 ∅ 0 ∗ atPos ER (sCell 1 c) 0 ∅ 0 ∗ atPos ER (sCell 2 c) 0 ∅ 0
      ∗ atPos ER (sCell 3 c) 0 ∅ 0 ∗ atPos ER (sCell 4 c) 0 ∅ 0 ∗ atPos ER (sCell 5 c) 0 ∅ 0)
    ∗ (atPos ER (rCell 0 c) 0 ∅ 0 ∗ atPos ER (rCell 1 c) 0 ∅ 0 ∗ atPos ER (rCell 2 c) 0 ∅ 0
      ∗ atPos ER (rCell 3 c) 0 ∅ 0 ∗ atPos ER (rCell 4 c) 0 ∅ 0 ∗ atPos ER (rCell 5 c) 0 ∅ 0))

/-- The credit of what others will pay at `c`'s barrier and receive cells. -/
def creds (c : Dev nD) : sProp 𝕄 :=
  iprop(cred (tallyAt (bCell c) () 3)
    ∗ cred (tallyAt (rCell 0 c) () (amt 0)) ∗ cred (tallyAt (rCell 1 c) () (amt 1)) ∗ cred (tallyAt (rCell 2 c) () (amt 2))
    ∗ cred (tallyAt (rCell 3 c) () (amt 3)) ∗ cred (tallyAt (rCell 4 c) () (amt 4)) ∗ cred (tallyAt (rCell 5 c) () (amt 5)))

/-! ## The steps -/

/-- The signal of the bit-`b` partner's barrier: hands over `c`'s own two receive slots of that bit. -/
theorem signal_step (b : Fin 3) (c n : Dev nD) (hn : n = par b c) (κ : ℕ) (O : CellTallies nD τ sig Unit) (W : Waits sig Unit)
    {α : Type} {Q : α → sProp 𝕄} {k : PUnit → Prog (TpuEff nD τ sig (Elt F) Λ₀ .tc) α} :
    iprop(cellInv ER (Rd Y) κ (bCell (par b c)) ∗ owes (c : Thread nD τ) (O + tallyAt (bCell (par b c)) () 1) W
        ∗ dutyTok ER (bCell (par b c)) 0 b ∗ barPay (F := F) (par b c) b ∗ reached ER (bCell (par b c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barrier0 1) k) Q) := by
  subst hn
  exact Rounds.wp_signal 𝒱₀ ER (Rd Y) (c : Thread nD τ) none (dst := (par b c : Thread nD τ)) (κ := κ)
    (by rw [duties_b]; exact Finset.mem_univ _) (amount_b Y (par b c) b) () O rfl

/-- The barrier wait: the partners' receive slots of the six steps come with it. -/
theorem barrier_step (c : Dev nD) (κ : ℕ) (O : CellTallies nD τ sig Unit) (W : Waits sig Unit)
    {α : Type} {Q : α → sProp 𝕄} {k : PUnit → Prog (TpuEff nD τ sig (Elt F) Λ₀ .tc) α} :
    iprop(cellInv ER (Rd Y) κ (bCell c) ∗ cred (tallyAt (bCell c) () 3) ∗ owes (c : Thread nD τ) O W
        ∗ MayWait (c : Thread nD τ) (.reg barrier0) () O ∗ atPos ER (bCell c) 0 ∅ 0)
      ⊢ iprop(((owes (c : Thread nD τ) O (insert (.reg barrier0, ()) W) ∗ atPos ER (bCell c) 1 ∅ 0
            ∗ (barPay (F := F) c 0 ∗ barPay (F := F) c 1 ∗ barPay (F := F) c 2))
          -∗ wp frame (wpE (defs₀ (F := F)) 𝒱₀ (c : Thread nD τ) none) Set.univ (k ⟨⟩) Q)
          -∗ wp frame (wpE (defs₀ (F := F)) 𝒱₀ (c : Thread nD τ) none) Set.univ (.op (.semWait barrier0 3) k) Q) := by
  iintro H Hk
  iapply (Rounds.wp_wait_rest_token 𝒱₀ ER (Rd Y) (c : Thread nD τ) none (κ := κ)
      (wpE_semWait_eq 𝒱₀ (c : Thread nD τ) none Set.univ) (Set.mem_univ _) () (O := O) (W := W) (R := 0) (m := 0) (T := ∅)
      (by rw [expect_b])) $$ H
  iintro ⟨HO, Hat, -, Hpay⟩
  iapply Hk
  isplitl [HO]; · iexact HO
  isplitl [Hat]; · iexact Hat
  rw [← rest_b Y c]; iexact Hpay

/-- A slot whose contents read `X` is held at `X`. -/
theorem heldAt_of_read {s : Shape} (M : Memref sig .tc .vmem s .bf16) (d : Dev nD) (X : FVec F s .bf16) (f : Buf (Elt F) (M.view.loc (d : Thread nD τ)))
    (h : M.view.read (Elt F) f = X) :
    (M.view.loc (d : Thread nD τ) ↦[M.view.set]{fullShare} f : sProp 𝕄) ⊢ heldAt M d X := by
  subst h
  unfold heldAt
  exact pointsTo_rep_entails (d : Thread nD τ) M f fullShare

/-- A slot written whole with what another slot holding `X` reads is held at `X`. -/
theorem landed {s : Shape} (src dst : Memref sig .tc .vmem s .bf16) (d : Dev nD) (X : FVec F s .bf16) (fn : Buf (Elt F) (dst.view.loc (d : Thread nD τ))) :
    (dst.view.loc (d : Thread nD τ) ↦[dst.view.set]{fullShare} (dst.view.write (Elt F) fn (src.view.read (Elt F) (src.view.rep X)) Finset.univ) : sProp 𝕄)
      ⊢ heldAt dst d X :=
  heldAt_of_read dst d X _ (by rw [View.read_write_univ, View.read_rep])

/-- The transfer of step `k` to the partner: the slot `src`, holding `X`, is lent; the partner's slot `dst` will hold `X`. -/
theorem send_step (k : Fin 6) {s : Shape} (src dst : Memref sig .tc .vmem s .bf16) (c n : Dev nD) (X : FVec F s .bf16)
    (hs : dmaPay Y c (6 + k.val) = heldAny (F := F) src c) (hr : dmaPay Y n (12 + k.val) = heldAt dst n X)
    (hN : ∀ sm : DmaSem sig, dst.view.amount (.dma sm) = amt k.val)
    {n' : Dev nD} (hn : n' = n) {ss sr : DmaSem sig} (hss : ss = sS k) (hsr : sr = rS k)
    (κ₁ κ₂ : ℕ) (O : CellTallies nD τ sig Unit) (W : Waits sig Unit)
    {hsc : (dst : Memref sig .tc .vmem s .bf16).view.ref.isScScratch = false}
    {hsrc : src.view.WordExact} {hdst : dst.view.WordExact}
    {hsem : DmaTarget.Typed .vmem (.dma sr) (.remote (Dev.tc n' : Thread nD τ) dst (.dma ss) hsc)}
    {α : Type} {Q : α → sProp 𝕄} {kk : PUnit → Prog (TpuEff nD τ sig (Elt F) Λ₀ .tc) α} :
    iprop(cellInv ER (Rd Y) κ₁ (sCell k c) ∗ cellInv ER (Rd Y) κ₂ (rCell k n)
        ∗ heldAt src c X ∗ heldAny (F := F) dst n
        ∗ owes (c : Thread nD τ) (O + tallyAt (rCell k n) () (amt k.val)) W
        ∗ dutyTok ER (sCell k c) 0 (0 : Fin 3) ∗ reached ER (sCell k c) 0
        ∗ dutyTok ER (rCell k n) 0 (0 : Fin 3) ∗ reached ER (rCell k n) 0)
      ⊢ iprop(((cred (tallyAt (sCell k c) () (amt k.val)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n' : Thread nD τ) dst (.dma ss) hsc) (.dma sr) hsrc hdst hsem) kk) Q) := by
  subst hss hsr; obtain rfl := hn.symm
  unfold heldAt heldAny
  iintro ⟨H1, H2, H3, ⟨%fn, H4⟩, H5⟩ Hk
  iapply (Rounds.wp_send_pointsTo 𝒱₀ ER (Rd Y) (c : Thread nD τ) none (κ₁ := κ₁) (κ₂ := κ₂)
    (r₁ := 0) (r₂ := 0) (d₁ := (0 : Fin 3)) (d₂ := (0 : Fin 3)) (fd := fn) (fs := src.view.rep X) (q := fullShare)
    (by rw [duties_s]; exact Finset.mem_singleton_self _) (by rw [duties_r]; exact Finset.mem_singleton_self _)
    () () (amt k.val) (hN _) (amount_s Y c k 0) (amount_r Y n k 0) O rfl (W := W)
    (by rw [payload_s, hs]; unfold heldAny; iintro H; iexists _; iexact H)
    (by rw [payload_r, hr]; exact landed src dst n X fn)) $$ [H1 H2 H3 H4 H5]
  · isplitl [H1]; · iexact H1
    isplitl [H2]; · iexact H2
    isplitl [H3]; · iexact H3
    isplitl [H4]; · iexact H4
    iexact H5
  iexact Hk

/-- The wait on the send semaphore of step `k`: the slot comes back. -/
theorem wait_s_step (k : Fin 6) {s : Shape} (a b : Memref sig .tc .vmem s .bf16) (c : Dev nD) {sm : DmaSem sig} (hsm : sm = sS k)
    {P : sProp 𝕄} (hp : dmaPay Y c (6 + k.val) = P)
    (hN : b.view.dmaCredit = amt k.val)
    (κ : ℕ) (O : CellTallies nD τ sig Unit) (W : Waits sig Unit) {ha : a.view.WordExact} {hb : b.view.WordExact}
    {α : Type} {Q : α → sProp 𝕄} {kk : PUnit → Prog (TpuEff nD τ sig (Elt F) Λ₀ .tc) α} :
    iprop(cellInv ER (Rd Y) κ (sCell k c) ∗ cred (tallyAt (sCell k c) () (amt k.val)) ∗ owes (c : Thread nD τ) O W
        ∗ MayWait (c : Thread nD τ) (.dma (sS k)) () O ∗ atPos ER (sCell k c) 0 ∅ 0)
      ⊢ iprop(((owes (c : Thread nD τ) O (insert (.dma (sS k), ()) W) ∗ atPos ER (sCell k c) 1 ∅ 0 ∗ P)
          -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm a b ha hb) kk) Q) := by
  subst hsm hp
  iintro ⟨H1, H2, H3⟩ Hk
  iapply (Rounds.wp_wait_rest_token 𝒱₀ ER (Rd Y) (c : Thread nD τ) none (κ := κ)
      (wpE_waitDma2_eq 𝒱₀ (c : Thread nD τ) none Set.univ) (Set.mem_univ _) () (O := O) (W := W) (R := 0) (m := 0) (T := ∅)
      (by rw [Nat.zero_add, expect_s]; exact hN)) $$ [H1 H2 H3]
  · isplitl [H1]; · iexact H1
    isplitl [H2]; · rw [hN]; iexact H2
    iexact H3
  iintro ⟨HO, Hat, -, Hpay⟩
  iapply Hk
  isplitl [HO]; · iexact HO
  isplitl [Hat]; · iexact Hat
  rw [← rest_s Y c k]; iexact Hpay

/-- The wait on the receive semaphore of step `k`: the slot comes, holding what the partner sent. -/
theorem wait_r_step (k : Fin 6) {s : Shape} (a b : Memref sig .tc .vmem s .bf16) (c : Dev nD) {sm : DmaSem sig} (hsm : sm = rS k)
    {P : sProp 𝕄} (hp : dmaPay Y c (12 + k.val) = P)
    (hN : b.view.dmaCredit = amt k.val)
    (κ : ℕ) (O : CellTallies nD τ sig Unit) (W : Waits sig Unit) {ha : a.view.WordExact} {hb : b.view.WordExact}
    {α : Type} {Q : α → sProp 𝕄} {kk : PUnit → Prog (TpuEff nD τ sig (Elt F) Λ₀ .tc) α} :
    iprop(cellInv ER (Rd Y) κ (rCell k c) ∗ cred (tallyAt (rCell k c) () (amt k.val)) ∗ owes (c : Thread nD τ) O W
        ∗ MayWait (c : Thread nD τ) (.dma (rS k)) () O ∗ atPos ER (rCell k c) 0 ∅ 0)
      ⊢ iprop(((owes (c : Thread nD τ) O (insert (.dma (rS k), ()) W) ∗ atPos ER (rCell k c) 1 ∅ 0 ∗ P)
          -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm a b ha hb) kk) Q) := by
  subst hsm hp
  iintro ⟨H1, H2, H3⟩ Hk
  iapply (Rounds.wp_wait_rest_token 𝒱₀ ER (Rd Y) (c : Thread nD τ) none (κ := κ)
      (wpE_waitDma2_eq 𝒱₀ (c : Thread nD τ) none Set.univ) (Set.mem_univ _) () (O := O) (W := W) (R := 0) (m := 0) (T := ∅)
      (by rw [Nat.zero_add, expect_r]; exact hN)) $$ [H1 H2 H3]
  · isplitl [H1]; · iexact H1
    isplitl [H2]; · rw [hN]; iexact H2
    iexact H3
  iintro ⟨HO, Hat, -, Hpay⟩
  iapply Hk
  isplitl [HO]; · iexact HO
  isplitl [Hat]; · iexact Hat
  rw [← rest_r Y c k]; iexact Hpay

end Cert.Xchg

end
-- ==== Proof.Cells.lean ====
/-
  The exchange's cells as a family: a star over them written out, what a device holds of them as such a star, and their
  closing at the end.
-/
module

public import proofs.«01_k».proof.Proof.Steps

@[expose] public section

set_option maxRecDepth 16384

noncomputable section

namespace Cert.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- A star over a device's cells, written out. -/
theorem star_cells (Φ : CI → sProp 𝕄) : bigSep Finset.univ Φ
    = iprop(Φ (.inl ()) ∗ Φ (.inr (.inl 0)) ∗ Φ (.inr (.inl 1)) ∗ Φ (.inr (.inl 2)) ∗ Φ (.inr (.inl 3)) ∗ Φ (.inr (.inl 4)) ∗ Φ (.inr (.inl 5))
      ∗ Φ (.inr (.inr 0)) ∗ Φ (.inr (.inr 1)) ∗ Φ (.inr (.inr 2)) ∗ Φ (.inr (.inr 3)) ∗ Φ (.inr (.inr 4)) ∗ Φ (.inr (.inr 5))) := by
  rw [bigSep_univ_eq_bigSepL [(.inl () : CI), .inr (.inl 0), .inr (.inl 1), .inr (.inl 2), .inr (.inl 3), .inr (.inl 4), .inr (.inl 5),
    .inr (.inr 0), .inr (.inr 1), .inr (.inr 2), .inr (.inr 3), .inr (.inr 4), .inr (.inr 5)] (by decide) (by decide) _]
  rfl

/-- A persistent assertion goes to every member of a star. -/
theorem star_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine BI.Entails.trans (sep_mono_left (BI.bigSep_of_persistent S R)) ?_
  rw [← bigSep_sep']
  exact bigSep_mono h

/-- A device's positions at its cells, as a star over them. -/
theorem poss_intro (c : Dev nD) : (bigSep Finset.univ fun k : CI => (atPos ER (kcell (c, k)) 0 ∅ 0 : sProp 𝕄)) ⊢ poss c := by
  rw [star_cells]
  unfold poss
  iintro ⟨H, A0, A1, A2, A3, A4, A5, B0, B1, B2, B3, B4, B5⟩
  isplitl [H]; · iexact H
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [B0]; · iexact B0
  isplitl [B1]; · iexact B1
  isplitl [B2]; · iexact B2
  isplitl [B3]; · iexact B3
  isplitl [B4]; · iexact B4
  iexact B5

/-- After its round a device closes a cell: its counter is at zero. -/
theorem close_cell (Y : Msgs F) (K : Dev nD × CI → ℕ) (c : Dev nD) (k : CI) :
    iprop(invAll Y K ∗ atPos ER (kcell (c, k)) 1 ∅ 0) ⊢ (|={Set.univ}=> semVal (kcell (c, k)) 0 : sProp 𝕄) := by
  iintro ⟨#I, H⟩
  ihave #J := inv_at Y K (c, k) $$ I
  icases J with ⟨#J, -⟩
  iapply (Rounds.cell_close ER (Rd Y) (Set.mem_univ (K (c, k))) (fun h => h) (R := 1) (duties_later Y (kcell (c, k))))
  isplitl []; · iexact J
  iexact H

/-- After its round a device closes its cells: their counters are at zero. -/
theorem close_cells (Y : Msgs F) (K : Dev nD × CI → ℕ) (c : Dev nD) :
    iprop(invAll Y K ∗ atPos ER (bCell c) 1 ∅ 0
      ∗ (atPos ER (sCell 0 c) 1 ∅ 0 ∗ atPos ER (sCell 1 c) 1 ∅ 0 ∗ atPos ER (sCell 2 c) 1 ∅ 0 ∗ atPos ER (sCell 3 c) 1 ∅ 0 ∗ atPos ER (sCell 4 c) 1 ∅ 0 ∗ atPos ER (sCell 5 c) 1 ∅ 0)
      ∗ (atPos ER (rCell 0 c) 1 ∅ 0 ∗ atPos ER (rCell 1 c) 1 ∅ 0 ∗ atPos ER (rCell 2 c) 1 ∅ 0 ∗ atPos ER (rCell 3 c) 1 ∅ 0 ∗ atPos ER (rCell 4 c) 1 ∅ 0 ∗ atPos ER (rCell 5 c) 1 ∅ 0))
      ⊢ (|={Set.univ}=> bigSep Finset.univ fun k : CI => semVal (kcell (c, k)) 0 : sProp 𝕄) := by
  iintro ⟨#I, H, ⟨A0, A1, A2, A3, A4, A5⟩, B0, B1, B2, B3, B4, B5⟩
  iapply (bigSep_fupd Finset.univ fun k : CI => (semVal (kcell (c, k)) 0 : sProp 𝕄))
  iapply (star_with (R := invAll Y K) (S := (Finset.univ : Finset CI)) (Φ := fun k : CI => (atPos ER (kcell (c, k)) 1 ∅ 0 : sProp 𝕄))
    (Ψ := fun k : CI => iprop(|={Set.univ}=> semVal (kcell (c, k)) 0)) fun k _ => close_cell Y K c k)
  isplitl []; · iexact I
  rw [star_cells]
  isplitl [H]; · iexact H
  isplitl [A0]; · iexact A0
  isplitl [A1]; · iexact A1
  isplitl [A2]; · iexact A2
  isplitl [A3]; · iexact A3
  isplitl [A4]; · iexact A4
  isplitl [A5]; · iexact A5
  isplitl [B0]; · iexact B0
  isplitl [B1]; · iexact B1
  isplitl [B2]; · iexact B2
  isplitl [B3]; · iexact B3
  isplitl [B4]; · iexact B4
  iexact B5

end Cert.Xchg

end
-- ==== Proof.Attn.lean ====
/-
  A device's first part, run: the heads' keys and values brought in, the partners told and waited for, and the attention
  of the eight heads left in the context buffer, which is then loaded whole.
-/
module

public import proofs.«01_k».proof.Proof.Steps

@[expose] public section

set_option maxRecDepth 16384

noncomputable section

namespace Cert.Xchg

open Cert.KernelIdeal Cert.KernelIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The buffers -/

abbrev kS : DmaSem sig := ⟨4, by decide⟩
abbrev vS : DmaSem sig := ⟨5, by decide⟩
abbrev xM : Memref sig .tc .vmem S1x1024x1024 .f32 := Memref.whole cc0_stg0_0
abbrev wqM : Memref sig .tc .vmem S1024x1024 .f32 := Memref.whole cc0_stg1_0
abbrev kM : Memref sig .tc .hbm S1x1024x64x128 .f32 := Memref.whole main_arg2
abbrev vM : Memref sig .tc .hbm S1x1024x64x128 .f32 := Memref.whole main_arg3
abbrev woM : Memref sig .tc .vmem S1024x1024 .f32 := Memref.whole cc0_stg2_0
abbrev oM : Memref sig .tc .vmem S1x1024x1024 .f32 := Memref.whole cc0_stg3_0
abbrev cM : Memref sig .tc .vmem S1024x1024 .bf16 := Memref.whole cc0_scratch0

/-- The halves of the key/value buffer, and the device's eight heads of the keys and of the values. -/
abbrev kWin : Memref sig .tc .vmem S1024x8x128 .f32 :=
  (kvM.slice (Rect.unit (s := S2x1024x8x128) ![0, 0, 0, 0] S1x1024x8x128.size inb_S2x1024x8x128_S1x1024x8x128_0_0_0_0) (fun _ => rfl)).squeeze S1024x8x128 squeezes_S1x1024x8x128_S1024x8x128
abbrev vWin : Memref sig .tc .vmem S1024x8x128 .f32 :=
  (kvM.slice (Rect.unit (s := S2x1024x8x128) ![1, 0, 0, 0] S1x1024x8x128.size inb_S2x1024x8x128_S1x1024x8x128_1_0_0_0) (fun _ => rfl)).squeeze S1024x8x128 squeezes_S1x1024x8x128_S1024x8x128
abbrev kSrc (c : Dev nD) : Memref sig .tc .hbm S1024x8x128 .f32 :=
  (kM.slice (Rect.unit (s := S1x1024x64x128) (k0_off1 c) S1x1024x8x128.size (k0_off1_inb c)) (fun _ => rfl)).squeeze S1024x8x128 squeezes_S1x1024x8x128_S1024x8x128
abbrev vSrc (c : Dev nD) : Memref sig .tc .hbm S1024x8x128 .f32 :=
  (vM.slice (Rect.unit (s := S1x1024x64x128) (k0_off1 c) S1x1024x8x128.size (k0_off1_inb c)) (fun _ => rfl)).squeeze S1024x8x128 squeezes_S1x1024x8x128_S1024x8x128

/-- The key/value buffer's contents from `g` once both halves have come in. -/
def kvFrom (c : Dev nD) (f2 : Buf (Elt F) (kM.view.loc (c : Thread nD τ))) (f3 : Buf (Elt F) (vM.view.loc (c : Thread nD τ)))
    (g : Buf (Elt F) (kvM.view.loc (c : Thread nD τ))) : Buf (Elt F) (kvM.view.loc (c : Thread nD τ)) :=
  vWin.view.write (Elt F) (kWin.view.write (Elt F) g ((kSrc c).view.read (Elt F) f2) Finset.univ) ((vSrc c).view.read (Elt F) f3) Finset.univ

/-- A write of a whole view makes equal what was equal off the view. -/
theorem write_congr_off {κ : Kind} {sp : Space} {s : Shape} {e : EltTy} (v : View sig κ sp s e) (f g : v.ty.Contents (Elt F)) (w : s.Idx → Elt F e) (i : v.ty.Idx)
    (h : i ∉ v.set → f i = g i) : v.write (Elt F) f w Finset.univ i = v.write (Elt F) g w Finset.univ i := by
  by_cases hi : i ∈ v.set
  · obtain ⟨x, -, rfl⟩ := Finset.mem_map.mp hi
    rw [View.write_emb_of_mem _ _ (Finset.mem_univ x), View.write_emb_of_mem _ _ (Finset.mem_univ x)]
  · rw [View.write_of_not_mem _ _ _ hi, View.write_of_not_mem _ _ _ hi]
    exact h hi

/-- The two halves are the whole buffer: what was there before does not matter. -/
theorem kvFrom_eq (c : Dev nD) (f2 : Buf (Elt F) (kM.view.loc (c : Thread nD τ))) (f3 : Buf (Elt F) (vM.view.loc (c : Thread nD τ)))
    (g g' : Buf (Elt F) (kvM.view.loc (c : Thread nD τ))) : kvFrom c f2 f3 g = kvFrom c f2 f3 g' := by
  funext i
  refine write_congr_off vWin.view _ _ _ i fun hv => write_congr_off kWin.view _ _ _ i fun hk => ?_
  exfalso
  rw [Memref.set_view_squeeze, View.set_slice_whole, Rect.mem_set_unit] at hv hk
  have h0 : (i 0).val < 2 := (i 0).isLt
  have h1 : (i 1).val < 1024 := (i 1).isLt
  have h2 : (i 2).val < 8 := (i 2).isLt
  have h3 : (i 3).val < 128 := (i 3).isLt
  by_cases h : (i 0).val = 0
  · refine hk fun a => ?_
    match a with
    | 0 => exact ⟨Nat.zero_le _, by show _ < 0 + 1; omega⟩
    | 1 => exact ⟨Nat.zero_le _, by show _ < 0 + 1024; omega⟩
    | 2 => exact ⟨Nat.zero_le _, by show _ < 0 + 8; omega⟩
    | 3 => exact ⟨Nat.zero_le _, by show _ < 0 + 128; omega⟩
  · refine hv fun a => ?_
    match a with
    | 0 => exact ⟨by show 1 ≤ _; omega, by show _ < 1 + 1; omega⟩
    | 1 => exact ⟨Nat.zero_le _, by show _ < 0 + 1024; omega⟩
    | 2 => exact ⟨Nat.zero_le _, by show _ < 0 + 8; omega⟩
    | 3 => exact ⟨Nat.zero_le _, by show _ < 0 + 128; omega⟩

/-- The key/value buffer's contents once both halves have come in. -/
def kvAt (c : Dev nD) (f2 : Buf (Elt F) (kM.view.loc (c : Thread nD τ))) (f3 : Buf (Elt F) (vM.view.loc (c : Thread nD τ))) :
    Buf (Elt F) (kvM.view.loc (c : Thread nD τ)) :=
  kvFrom c f2 f3 fun _ => Classical.arbitrary _

/-! ## The program up to the context's load -/

/-- A function of the body's arguments at the body's arguments. -/
abbrev args {α : Type 1} (f : ∀ (a0 : Memref sig .tc .vmem S1x1024x1024 .f32) (_ : a0.IsWhole) (a1 : Memref sig .tc .vmem S1024x1024 .f32) (_ : a1.IsWhole)
    (a2 : Memref sig .tc .hbm S1x1024x64x128 .f32) (_ : a2.IsWhole) (a3 : Memref sig .tc .hbm S1x1024x64x128 .f32) (_ : a3.IsWhole)
    (a4 : Memref sig .tc .vmem S1024x1024 .f32) (_ : a4.IsWhole) (a5 : Memref sig .tc .vmem S1x1024x1024 .f32) (_ : a5.IsWhole)
    (a6 : Memref sig .tc .vmem S1024x1024 .bf16) (_ : a6.IsWhole) (a7 : Memref sig .tc .vmem S2x1024x8x128 .f32) (_ : a7.IsWhole)
    (a8 : Memref sig .tc .vmem S1792x1024 .bf16) (_ : a8.IsWhole) (a9 : Memref sig .tc .vmem S1792x1024 .bf16) (_ : a9.IsWhole)
    (_ : DmaSems sig S2) (_ : DmaSems sig S6) (_ : DmaSems sig S6), α) : α :=
  f (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6

/-- The body up to the load of the context, then `k`. -/
abbrev attnProg (k : Dev nD → BitVec 32 → Vec F S1024x1024 .bf16 → Prog (TpuEff nD τ sig (Elt F) Λ₀ .tc) PUnit) : Prog (TpuEff nD τ sig (Elt F) Λ₀ .tc) PUnit := do
  let ⟨d0, v5, v20, c2⟩ ← args (k0_part1 (F := F))
  let ⟨v48, v51, c64, v53, v56, v59⟩ ← args (k0_part2 (F := F)) d0 v5 v20 c2
  let ⟨v101, v104, c64', v106⟩ ← args (k0_part3 (F := F)) v51 c64 v53 v56 v59
  let ⟨v128, v153⟩ ← args (k0_part4 (F := F)) v104 c64' v106
  let ⟨v154, v178, v179, v182, z⟩ ← args (k0_part5 (F := F)) d0 v48 v101 v128 v153
  let v218 ← args (k0_part6 (F := F)) v48 v154 v178 v179 v182 z
  let v254 ← args (k0_part7 (F := F)) v48 v101 v154 v218
  let v289 ← args (k0_part8 (F := F)) v48 v101 v154 v254
  let v324 ← args (k0_part9 (F := F)) v48 v101 v289
  let ⟨v358, v360⟩ ← args (k0_part10 (F := F)) v48 v101 v154 v324
  let v396 ← args (k0_part11 (F := F)) v48 v154 v358 v360
  let ⟨v427, v431⟩ ← args (k0_part12 (F := F)) v48 v101 v154 v396
  let v466 ← args (k0_part13 (F := F)) v48 v101 v427 v431
  let ⟨v500, v501⟩ ← args (k0_part14 (F := F)) v48 v101 v154 v466
  let v535 ← args (k0_part15 (F := F)) v48 v154 v500 v501
  k d0 v5 v535

/-- What the three duties of a barrier hand over, one by one. -/
theorem barPays (c : Dev nD) : bigSep (Finset.univ : Finset (Fin 3)) (fun d => barPay (F := F) c d)
    = iprop(barPay (F := F) c 0 ∗ barPay (F := F) c 1 ∗ barPay (F := F) c 2) :=
  bigSep_univ_eq_bigSepL [(0 : Fin 3), (1 : Fin 3), (2 : Fin 3)] (by decide) (by decide) _

attribute [local sl_rounds] duties_b amount_b expect_b payload_b

set_option maxHeartbeats 2000000 in
set_option sl_exec.dmaWindow true in
/-- The run up to the context's load: the context is a function of the device and of its input blocks; the barrier has
    handed over the partners' receive slots, and the six landings are all that is still owed. -/
def attnRun (c : Dev nD) (f0 : Buf (Elt F) (xM.view.loc (c : Thread nD τ))) (f1 : Buf (Elt F) (wqM.view.loc (c : Thread nD τ)))
    (kv : Buf (Elt F) (kvM.view.loc (c : Thread nD τ))) :
    { X : Vec F S1024x1024 .bf16 //
      ∀ (Y : Msgs F) (κ0 κ1 κ2 κ3 : ℕ) (f2 : Buf (Elt F) (kM.view.loc (c : Thread nD τ))) (f3 : Buf (Elt F) (vM.view.loc (c : Thread nD τ)))
        (f6 : Buf (Elt F) (cM.view.loc (c : Thread nD τ))) (f7 : Buf (Elt F) (kvM.view.loc (c : Thread nD τ)))
        (_ : kv = kvAt c f2 f3) (W : Waits sig Unit) (Q : PUnit → sProp 𝕄)
        (k : Dev nD → BitVec 32 → Vec F S1024x1024 .bf16 → Prog (TpuEff nD τ sig (Elt F) Λ₀ .tc) PUnit),
        iprop(levAts L lv
          ∗ cellInv ER (Rd Y) κ0 (bCell c) ∗ cellInv ER (Rd Y) κ1 (bCell (par 0 c)) ∗ cellInv ER (Rd Y) κ2 (bCell (par 1 c)) ∗ cellInv ER (Rd Y) κ3 (bCell (par 2 c))
          ∗ reached ER (bCell (par 0 c)) 0 ∗ reached ER (bCell (par 1 c)) 0 ∗ reached ER (bCell (par 2 c)) 0
          ∗ (xM.view.loc (c : Thread nD τ) ↦{fullShare} f0) ∗ (wqM.view.loc (c : Thread nD τ) ↦{fullShare} f1)
          ∗ (kM.view.loc (c : Thread nD τ) ↦{fullShare} f2) ∗ (vM.view.loc (c : Thread nD τ) ↦{fullShare} f3)
          ∗ (cM.view.loc (c : Thread nD τ) ↦{fullShare} f6) ∗ (kvM.view.loc (c : Thread nD τ) ↦{fullShare} f7)
          ∗ semVal ((c : Thread nD τ), .dma kS) 0 ∗ semVal ((c : Thread nD τ), .dma vS) 0
          ∗ dutyTok ER (bCell (par 0 c)) 0 (0 : Fin 3) ∗ dutyTok ER (bCell (par 1 c)) 0 (1 : Fin 3) ∗ dutyTok ER (bCell (par 2 c)) 0 (2 : Fin 3)
          ∗ barPay (F := F) (par 0 c) 0 ∗ barPay (F := F) (par 1 c) 1 ∗ barPay (F := F) (par 2 c) 2
          ∗ atPos ER (bCell c) 0 ∅ 0 ∗ cred (tallyAt (bCell c) () 3) ∗ owes (c : Thread nD τ) (O₀ c) W
          ∗ (∀ (v5 : BitVec 32) (W' : Waits sig Unit) (f6 : Buf (Elt F) (cM.view.loc (c : Thread nD τ))),
              (xM.view.loc (c : Thread nD τ) ↦{fullShare} f0) -∗ (wqM.view.loc (c : Thread nD τ) ↦{fullShare} f1)
              -∗ (kM.view.loc (c : Thread nD τ) ↦{fullShare} f2) -∗ (vM.view.loc (c : Thread nD τ) ↦{fullShare} f3)
              -∗ (cM.view.loc (c : Thread nD τ) ↦{fullShare} f6) -∗ (kvM.view.loc (c : Thread nD τ) ↦{fullShare} kv)
              -∗ semVal ((c : Thread nD τ), .dma kS) 0 -∗ semVal ((c : Thread nD τ), .dma vS) 0
              -∗ atPos ER (bCell c) 1 ∅ 0 -∗ (barPay (F := F) c 0 ∗ barPay (F := F) c 1 ∗ barPay (F := F) c 2)
              -∗ owes (c : Thread nD τ) (Ow c 0) W'
              -∗ wp frame (wpE (defs₀ (F := F)) 𝒱₀ (c : Thread nD τ) none) Set.univ (k c v5 X) Q))
        ⊢ wp frame (wpE (defs₀ (F := F)) 𝒱₀ (c : Thread nD τ) none) Set.univ (attnProg k) Q } := by
  refine ⟨?_, fun Y κ0 κ1 κ2 κ3 f2 f3 f6 f7 hkv W Q k => ?run⟩
  case run =>
    have hd1 := dev1_eq c
    have hd2 := dev2_eq c
    have hd3 := dev3_eq c
    have hwb : (levAts L lv : sProp 𝕄) ⊢ MayWait (c : Thread nD τ) (.reg barrier0) () (Ow c 0) := mayWait_Ow c 0 _ (by decide)
    have hw4 : (levAts L lv : sProp 𝕄) ⊢ MayWait (c : Thread nD τ) (.dma kS) () (Ow c 0) := mayWait_Ow c 0 _ (by decide)
    unfold O₀
    iintro ⟨#Hlev, #I0, #I1, #I2, #I3, #R1, #R2, #R3, H0, H1, H2, H3, H6, H7, S4, S5, T1, T2, T3, P1, P2, P3, Hat, Hc, HO, Hk⟩
    sl_exec
    have hw5 : (levAts L lv : sProp 𝕄) ⊢ MayWait (c : Thread nD τ) (.dma vS) () (Ow c 0) := mayWait_Ow c 0 _ (by decide)
    set_option sl_exec.maxSteps 1 in sl_exec
    ihave H7 : iprop(kvM.view.loc (c : Thread nD τ) ↦{fullShare} kv) $$ [H7]
    · rw [hkv, kvAt, kvFrom_eq c f2 f3 _ f7]
      iexact H7
    sl_exec
    iapply Hk $$ H0 H1 H2 H3 H6 H7 S4 S5 Hat [Hat_pay1] HO
    rw [← barPays c]; iexact Hat_pay1

end Cert.Xchg

end
-- ==== Proof.Start.lean ====
/-
  The exchange at the launch: its cells' tokens and positions given out, the credit of what each device is owed.
-/
module

public import proofs.«01_k».proof.Proof.Cells
public import proofs.«01_k».proof.Proof.Attn

@[expose] public section

set_option maxRecDepth 16384

noncomputable section

namespace Cert.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The launch element -/

theorem csem_injective : Function.Injective csem := by decide

theorem cell_inj {a b : Dev nD} {s t : SemLoc sig} (h : (((a : Thread nD τ), s) : GSem nD τ sig) = ((b : Thread nD τ), t)) : a = b ∧ s = t :=
  ⟨Fin.ext (congrArg (fun g : GSem nD τ sig => g.1.1.val) h), congrArg Prod.snd h⟩

theorem kcell_injective : Function.Injective (kcell : Dev nD × CI → GSem nD τ sig) := by
  rintro ⟨c, k⟩ ⟨d, j⟩ h
  obtain ⟨h1, h2⟩ := cell_inj h
  exact Prod.ext h1 (csem_injective h2)

/-- A device's duties: its barrier's three, and one on each of its other cells. -/
abbrev TI : Type := Fin 3 ⊕ Fin 6 ⊕ Fin 6

def tokOf : Dev nD × TI → GSem nD τ sig × ℕ × Fin 3
  | (c, .inl b) => (bCell c, 0, b)
  | (c, .inr x) => (kcell (c, .inr x), 0, 0)

theorem tokOf_injective : Function.Injective tokOf := by
  rintro ⟨c, b | x⟩ ⟨d, b' | y⟩ h
  · have h1 : bCell c = bCell d := congrArg Prod.fst h
    have h2 : b = b' := congrArg (fun t => t.2.2) h
    rw [(cell_inj h1).1, h2]
  · have h1 : kcell (c, .inl ()) = kcell (d, .inr y) := congrArg Prod.fst h
    cases kcell_injective h1
  · have h1 : kcell (c, .inr x) = kcell (d, .inl ()) := congrArg Prod.fst h
    cases kcell_injective h1
  · have h1 : kcell (c, .inr x) = kcell (d, .inr y) := congrArg Prod.fst h
    cases kcell_injective h1
    rfl

def xCells : Finset (GSem nD τ sig) := Finset.univ.map ⟨kcell, kcell_injective⟩
def xToks : Finset (GSem nD τ sig × ℕ × Fin 3) := Finset.univ.map ⟨tokOf, tokOf_injective⟩

/-- A device's own tokens. -/
def toks (c : Dev nD) : sProp 𝕄 := bigSep Finset.univ fun t : TI => dutyTok ER (tokOf (c, t)).1 (tokOf (c, t)).2.1 (tokOf (c, t)).2.2

variable (Y : Msgs F)

/-- What the launch element gives a device: its cells at the start of round 0, its positions, its tokens. -/
def G (c : Dev nD) : sProp 𝕄 :=
  iprop((bigSep Finset.univ fun k : CI => roundState ER (Rd Y) (kcell (c, k)) 0)
    ∗ (bigSep Finset.univ fun k : CI => iprop(atPos ER (kcell (c, k)) 0 ∅ 0 ∗ reached ER (kcell (c, k)) 0)) ∗ toks c)

/-- The launch element of the exchange gives every device its share. -/
theorem fund_cells : BI.own (ER (initOf xCells xToks)) ⊢ (|==> bigSep Finset.univ (G Y) : sProp 𝕄) := by
  have hX (Φ : GSem nD τ sig → sProp 𝕄) : bigSep xCells Φ = bigSep Finset.univ fun c : Dev nD => bigSep Finset.univ fun k : CI => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]; rfl
  iintro HX
  imod (Rounds.fund ER (Rd Y) xCells xToks) $$ HX with ⟨Hst, Hr, Hat, Htok⟩
  imodintro
  ihave Hst := (Entails.of_eq (hX fun g => roundState ER (Rd Y) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The tokens to who pays them -/

theorem around (b : Fin 3) (Φ : Dev nD → sProp 𝕄) : bigSep Finset.univ Φ = bigSep Finset.univ fun c => Φ (par b c) :=
  bigSep_univ_equiv (swap b) Φ

/-- A device's tokens, written out. -/
theorem toks_eq (c : Dev nD) : (toks c : sProp 𝕄)
    = iprop(dutyTok ER (bCell c) 0 (0 : Fin 3) ∗ dutyTok ER (bCell c) 0 (1 : Fin 3) ∗ dutyTok ER (bCell c) 0 (2 : Fin 3)
      ∗ dutyTok ER (sCell 0 c) 0 (0 : Fin 3) ∗ dutyTok ER (sCell 1 c) 0 (0 : Fin 3) ∗ dutyTok ER (sCell 2 c) 0 (0 : Fin 3)
      ∗ dutyTok ER (sCell 3 c) 0 (0 : Fin 3) ∗ dutyTok ER (sCell 4 c) 0 (0 : Fin 3) ∗ dutyTok ER (sCell 5 c) 0 (0 : Fin 3)
      ∗ dutyTok ER (rCell 0 c) 0 (0 : Fin 3) ∗ dutyTok ER (rCell 1 c) 0 (0 : Fin 3) ∗ dutyTok ER (rCell 2 c) 0 (0 : Fin 3)
      ∗ dutyTok ER (rCell 3 c) 0 (0 : Fin 3) ∗ dutyTok ER (rCell 4 c) 0 (0 : Fin 3) ∗ dutyTok ER (rCell 5 c) 0 (0 : Fin 3)) := by
  unfold toks
  rw [bigSep_univ_eq_bigSepL [(.inl 0 : TI), .inl 1, .inl 2, .inr (.inl 0), .inr (.inl 1), .inr (.inl 2), .inr (.inl 3), .inr (.inl 4), .inr (.inl 5),
    .inr (.inr 0), .inr (.inr 1), .inr (.inr 2), .inr (.inr 3), .inr (.inr 4), .inr (.inr 5)] (by decide) (by decide) _]
  rfl

/-- Each barrier and receive token goes to the partner that pays it. -/
theorem toks_around : (bigSep Finset.univ fun c : Dev nD => (toks c : sProp 𝕄)) ⊢ bigSep Finset.univ fun c : Dev nD => payToks c := by
  unfold payToks
  simp only [toks_eq, bigSep_sep']
  rw [around 0 fun c => (dutyTok ER (bCell c) 0 (0 : Fin 3) : sProp 𝕄), around 1 fun c => (dutyTok ER (bCell c) 0 (1 : Fin 3) : sProp 𝕄),
    around 2 fun c => (dutyTok ER (bCell c) 0 (2 : Fin 3) : sProp 𝕄),
    around 2 fun c => (dutyTok ER (rCell 0 c) 0 (0 : Fin 3) : sProp 𝕄), around 1 fun c => (dutyTok ER (rCell 1 c) 0 (0 : Fin 3) : sProp 𝕄),
    around 0 fun c => (dutyTok ER (rCell 2 c) 0 (0 : Fin 3) : sProp 𝕄), around 0 fun c => (dutyTok ER (rCell 3 c) 0 (0 : Fin 3) : sProp 𝕄),
    around 1 fun c => (dutyTok ER (rCell 4 c) 0 (0 : Fin 3) : sProp 𝕄), around 2 fun c => (dutyTok ER (rCell 5 c) 0 (0 : Fin 3) : sProp 𝕄)]
  iintro ⟨T0, T1, T2, A0, A1, A2, A3, A4, A5, B0, B1, B2, B3, B4, B5⟩
  isplitl [T0 T1 T2]
  · isplitl [T0]; · iexact T0
    isplitl [T1]; · iexact T1
    iexact T2
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [B0]; · iexact B0
  isplitl [B1]; · iexact B1
  isplitl [B2]; · iexact B2
  isplitl [B3]; · iexact B3
  isplitl [B4]; · iexact B4
  iexact B5

/-! ## The semaphores -/

/-- A body's own semaphores: the two of its local transfers, the send and the receive semaphores. -/
def osem : Fin 2 ⊕ Fin 6 ⊕ Fin 6 → SemLoc sig
  | .inl i => .dma ⟨4 + i.val, by have := i.isLt; show _ < 18; omega⟩
  | .inr x => csem (.inr x)

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal ((c : Thread nD τ), .dma kS) 0 ∗ semVal ((c : Thread nD τ), .dma vS) 0
      ∗ semVal (sCell 0 c) 0 ∗ semVal (sCell 1 c) 0 ∗ semVal (sCell 2 c) 0 ∗ semVal (sCell 3 c) 0 ∗ semVal (sCell 4 c) 0 ∗ semVal (sCell 5 c) 0
      ∗ semVal (rCell 0 c) 0 ∗ semVal (rCell 1 c) 0 ∗ semVal (rCell 2 c) 0 ∗ semVal (rCell 3 c) 0 ∗ semVal (rCell 4 c) 0 ∗ semVal (rCell 5 c) 0) := by
  rw [Pipeline.ownSems0_eq_of_list c osem [.inl 0, .inl 1, .inr (.inl 0), .inr (.inl 1), .inr (.inl 2), .inr (.inl 3), .inr (.inl 4), .inr (.inl 5),
    .inr (.inr 0), .inr (.inr 1), .inr (.inr 2), .inr (.inr 3), .inr (.inr 4), .inr (.inr 5)] (by decide) (by decide)]
  rfl

theorem unscopedSems0_eq (c : Dev nD) : (unscopedSems0 c : sProp 𝕄) = semVal (bCell c) 0 := by
  unfold unscopedSems0; rw [bigSep_eq_bigSepL_of_eq [SemLoc.reg barrier0] (by decide) (by decide)]; rfl

/-- The counters at the launch: the cells' as a star over them, and the two local ones. -/
theorem sems_eq (c : Dev nD) :
    iprop(Pipeline.ownSems0 (Ix := Unit) (Name := ℕ) (U := UU) (Lvl := ℕ) (Val := Elt F) (τ := τ) osem c ∗ unscopedSems0 c)
      ⊣⊢ (iprop((bigSep Finset.univ fun k : CI => semVal (kcell (c, k)) 0) ∗ semVal ((c : Thread nD τ), .dma kS) 0 ∗ semVal ((c : Thread nD τ), .dma vS) 0) : sProp 𝕄) := by
  rw [ownSems0_eq, unscopedSems0_eq, star_cells]
  constructor
  · iintro ⟨⟨K, V, A0, A1, A2, A3, A4, A5, B0, B1, B2, B3, B4, B5⟩, HB⟩
    isplitr [K V]
    · isplitl [HB]; · iexact HB
      isplitl [A0]; · iexact A0
      isplitl [A1]; · iexact A1
      isplitl [A2]; · iexact A2
      isplitl [A3]; · iexact A3
      isplitl [A4]; · iexact A4
      isplitl [A5]; · iexact A5
      isplitl [B0]; · iexact B0
      isplitl [B1]; · iexact B1
      isplitl [B2]; · iexact B2
      isplitl [B3]; · iexact B3
      isplitl [B4]; · iexact B4
      iexact B5
    · isplitl [K]; · iexact K
      iexact V
  · iintro ⟨⟨HB, A0, A1, A2, A3, A4, A5, B0, B1, B2, B3, B4, B5⟩, K, V⟩
    isplitr [HB]
    · isplitl [K]; · iexact K
      isplitl [V]; · iexact V
      isplitl [A0]; · iexact A0
      isplitl [A1]; · iexact A1
      isplitl [A2]; · iexact A2
      isplitl [A3]; · iexact A3
      isplitl [A4]; · iexact A4
      isplitl [A5]; · iexact A5
      isplitl [B0]; · iexact B0
      isplitl [B1]; · iexact B1
      isplitl [B2]; · iexact B2
      isplitl [B3]; · iexact B3
      isplitl [B4]; · iexact B4
      iexact B5
    · iexact HB

/-! ## The cells' invariants -/

/-- What a device has once the invariants stand. -/
def G' (c : Dev nD) : sProp 𝕄 :=
  iprop((∃ K, invAll Y K) ∗ poss c ∗ payToks c ∗ semVal ((c : Thread nD τ), .dma kS) 0 ∗ semVal ((c : Thread nD τ), .dma vS) 0)

/-- A device's cells, each with an invariant of some name; the rest of its share beside them. -/
def shared (c : Dev nD) : sProp 𝕄 :=
  iprop((bigSep Finset.univ fun k : CI => iprop(∃ κ : ℕ, cellInv ER (Rd Y) κ (kcell (c, k)) ∗ reached ER (kcell (c, k)) 0))
    ∗ poss c ∗ toks c ∗ semVal ((c : Thread nD τ), .dma kS) 0 ∗ semVal ((c : Thread nD τ), .dma vS) 0)

theorem cell_with (g : GSem nD τ sig) : iprop((∃ κ : ℕ, cellInv ER (Rd Y) κ g) ∗ reached ER g 0) ⊢ (iprop(∃ κ : ℕ, cellInv ER (Rd Y) κ g ∗ reached ER g 0) : sProp 𝕄) := by
  iintro ⟨⟨%κ, H⟩, R⟩
  iexists κ
  isplitl [H] <;> iassumption

theorem core_alloc (c : Dev nD) :
    iprop(Pipeline.ownSems0 (Ix := Unit) (Name := ℕ) (U := UU) (Lvl := ℕ) (Val := Elt F) (τ := τ) osem c ∗ unscopedSems0 c ∗ G Y c)
      ⊢ |={Set.univ}=> shared Y c := by
  unfold G shared
  rw [bigSep_sep']
  iintro ⟨Hos, Hus, Hst, Hat, Htok⟩
  ihave Hv := (sems_eq (F := F) c).1 $$ [Hos Hus]
  · isplitl [Hos] <;> iassumption
  icases Hv with ⟨Hv, HK, HV⟩
  icases Hat with ⟨Hat, Hr⟩
  imod (show iprop((bigSep Finset.univ fun k : CI => semVal (kcell (c, k)) 0) ∗ bigSep Finset.univ fun k : CI => roundState ER (Rd Y) (kcell (c, k)) 0)
      ⊢ (|={Set.univ}=> bigSep Finset.univ fun k => iprop(∃ κ : ℕ, cellInv ER (Rd Y) κ (kcell (c, k))) : sProp 𝕄) from by
        rw [← bigSep_sep']
        exact (bigSep_mono fun k _ => (Rounds.body_intro ER (Rd Y) (kcell (c, k))).trans inv_alloc).trans (bigSep_fupd _ _)) $$ [Hv Hst] with Hinv
  · isplitl [Hv] <;> iassumption
  imodintro
  isplitl [Hinv Hr]
  · iapply (show iprop((bigSep Finset.univ fun k : CI => iprop(∃ κ : ℕ, cellInv ER (Rd Y) κ (kcell (c, k)))) ∗ bigSep Finset.univ fun k : CI => reached ER (kcell (c, k)) 0)
      ⊢ (bigSep Finset.univ fun k : CI => iprop(∃ κ : ℕ, cellInv ER (Rd Y) κ (kcell (c, k)) ∗ reached ER (kcell (c, k)) 0) : sProp 𝕄) from by
        rw [← bigSep_sep']
        exact bigSep_mono fun k _ => cell_with Y (kcell (c, k)))
    isplitl [Hinv] <;> iassumption
  isplitl [Hat]; · iapply (poss_intro c) $$ Hat
  isplitl [Htok]; · iexact Htok
  isplitl [HK] <;> iassumption

theorem regroup : (bigSep Finset.univ fun c : Dev nD => shared Y c) ⊢ bigSep Finset.univ (G' Y) := by
  unfold shared
  simp only [bigSep_sep']
  rw [← bigSep_univ_prod (fun ck : Dev nD × CI => iprop(∃ κ : ℕ, cellInv ER (Rd Y) κ (kcell ck) ∗ reached ER (kcell ck) 0))]
  iintro ⟨HI, Hp, Ht, HK, HV⟩
  ihave HI := (BI.bigSep_exists_pi Finset.univ (fun (ck : Dev nD × CI) (κ : ℕ) => (iprop(cellInv ER (Rd Y) κ (kcell ck) ∗ reached ER (kcell ck) 0) : sProp 𝕄))) $$ HI
  icases HI with ⟨%K, #HI⟩
  ihave Ht := (toks_around (F := F)) $$ Ht
  iapply (star_with (R := invAll Y K) (S := (Finset.univ : Finset (Dev nD)))
    (Φ := fun c : Dev nD => (iprop(poss c ∗ payToks c ∗ semVal ((c : Thread nD τ), .dma kS) 0 ∗ semVal ((c : Thread nD τ), .dma vS) 0) : sProp 𝕄))
    (Ψ := fun c => G' Y c) fun c _ => by
      unfold G'
      iintro ⟨#I, H⟩
      isplitl []; · iexists K; iexact I
      iexact H)
  isplitl []; · unfold invAll; iexact HI
  simp only [bigSep_sep']
  isplitl [Hp]; · iexact Hp
  isplitl [Ht]; · iexact Ht
  isplitl [HK] <;> iassumption

theorem glob : (bigSep Finset.univ fun c => iprop(Pipeline.ownSems0 (Ix := Unit) (Name := ℕ) (U := UU) (Lvl := ℕ) (Val := Elt F) (τ := τ) osem c ∗ unscopedSems0 c ∗ G Y c) : sProp 𝕄)
    ⊢ |={Set.univ}=> bigSep Finset.univ (G' Y) :=
  ((bigSep_mono fun c _ => core_alloc Y c).trans (bigSep_fupd _ _)).trans (BI.fupd_mono (regroup Y))

/-! ## The credit -/

theorem tally_r (j k : Fin 6) (d c : Dev nD) (n : ℕ) : (tallyAt (rCell j d) () n : CellTallies nD τ sig Unit) (rCell k c) () = if c = d ∧ k = j then n else 0 := by
  rw [tallyAt_apply]
  refine if_congr ⟨fun h => ?_, fun h => ?_⟩ rfl rfl
  · have e := @kcell_injective (c, .inr (.inr k)) (d, .inr (.inr j)) h.1
    cases e
    exact ⟨rfl, rfl⟩
  · rw [h.1, h.2]; exact ⟨rfl, rfl⟩
theorem tally_b (d c : Dev nD) (n : ℕ) : (tallyAt (bCell d) () n : CellTallies nD τ sig Unit) (bCell c) () = if c = d then n else 0 := by
  rw [tallyAt_apply]
  refine if_congr ⟨fun h => (cell_inj h.1).1, fun h => ?_⟩ rfl rfl
  rw [h]; exact ⟨rfl, rfl⟩
theorem tally_rb (j : Fin 6) (d c : Dev nD) (n : ℕ) : (tallyAt (rCell j d) () n : CellTallies nD τ sig Unit) (bCell c) () = 0 := by
  rw [tallyAt_apply]
  exact if_neg fun h => by have := (cell_inj h.1).2; cases this
theorem tally_br (j : Fin 6) (d c : Dev nD) (n : ℕ) : (tallyAt (bCell d) () n : CellTallies nD τ sig Unit) (rCell j c) () = 0 := by
  rw [tallyAt_apply]
  exact if_neg fun h => by have := (cell_inj h.1).2; cases this

theorem owed_b (d c : Dev nD) : O₀ d (bCell c) () = (if c = par 2 d then 1 else 0) + (if c = par 1 d then 1 else 0) + (if c = par 0 d then 1 else 0) := by
  unfold O₀ Ow
  simp only [Pi.add_apply, Finsupp.add_apply, tally_b, tally_rb, Nat.zero_add]

theorem owed_r (k : Fin 6) (d c : Dev nD) : O₀ d (rCell k c) () = if c = par (bit k) d then amt k.val else 0 := by
  unfold O₀ Ow
  simp only [Pi.add_apply, Finsupp.add_apply, tally_r, tally_br, Nat.add_zero]
  fin_cases k <;> simp [bit] <;> rfl

theorem sum_par (b : Fin 3) (c : Dev nD) (n : ℕ) : (∑ d : Dev nD, if c = par b d then n else 0) = n := by
  rw [Finset.sum_congr rfl fun d _ => if_congr (show c = par b d ↔ par b c = d from
    ⟨fun h => by rw [h, par_par], fun h => by rw [← h, par_par]⟩) rfl rfl, Finset.sum_ite_eq, if_pos (Finset.mem_univ _)]

theorem launch_b (c : Dev nD) : tallyOn (bCell c) (launchCredit (Pipeline.owing O₀) 0 (bCell c)) = (tallyAt (bCell c) () 3 : CellTallies nD τ sig Unit) := by
  unfold tallyAt; refine congrArg _ (Finsupp.ext fun u => ?_); cases u
  rw [Pipeline.launchCredit_owing, Finsupp.single_eq_same, Finset.sum_congr rfl fun d _ => owed_b d c, Finset.sum_add_distrib, Finset.sum_add_distrib,
    sum_par, sum_par, sum_par]
theorem launch_r (k : Fin 6) (c : Dev nD) :
    tallyOn (rCell k c) (launchCredit (Pipeline.owing O₀) 0 (rCell k c)) = (tallyAt (rCell k c) () (amt k.val) : CellTallies nD τ sig Unit) := by
  unfold tallyAt; refine congrArg _ (Finsupp.ext fun u => ?_); cases u
  rw [Pipeline.launchCredit_owing, Finsupp.single_eq_same, Finset.sum_congr rfl fun d _ => owed_r k d c, sum_par]

theorem creds_intro (c : Dev nD) : (Pipeline.launchCred O₀ c : sProp 𝕄) ⊢ creds c := by
  unfold Pipeline.launchCred creds
  refine (bigSep_subset (t := [SemLoc.reg barrier0, .dma (rS 0), .dma (rS 1), .dma (rS 2), .dma (rS 3), .dma (rS 4), .dma (rS 5)].toFinset) (Finset.subset_univ _)).trans ?_
  rw [bigSep_eq_bigSepL_of_eq [SemLoc.reg barrier0, .dma (rS 0), .dma (rS 1), .dma (rS 2), .dma (rS 3), .dma (rS 4), .dma (rS 5)] rfl (by decide),
    ← launch_b c]
  have h0 := launch_r 0 c
  have h1 := launch_r 1 c
  have h2 := launch_r 2 c
  have h3 := launch_r 3 c
  have h4 := launch_r 4 c
  have h5 := launch_r 5 c
  simp only [show ((0 : Fin 6).val) = 0 from rfl, show ((1 : Fin 6).val) = 1 from rfl, show ((2 : Fin 6).val) = 2 from rfl, show ((3 : Fin 6).val) = 3 from rfl,
    show ((4 : Fin 6).val) = 4 from rfl, show ((5 : Fin 6).val) = 5 from rfl] at h0 h1 h2 h3 h4 h5
  rw [← h0, ← h1, ← h2, ← h3, ← h4, ← h5]
  rfl

end Cert.Xchg

end
-- ==== Proof.Slots.lean ====
/-
  The send and the receive buffer as their six slots: a buffer held whole is its slots held one by one, and back.
-/
module

public import proofs.«01_k».proof.Proof.Proto
public import Idealize.ShloMosaic.Lib.Ring

@[expose] public section

set_option maxRecDepth 16384

noncomputable section

namespace Cert.Xchg

open Cert.KernelIdeal Cert.KernelIdeal.Gen

open Idealize.ShloMosaic Idealize.ShloMosaic.Ring
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- A slot's first row and its number of rows. -/
def slotOff : Fin 6 → ℕ := ![0, 512, 768, 896, 1024, 1280]
def slotLen : Fin 6 → ℕ := ![512, 256, 128, 128, 256, 512]

/-- The rectangle of slot `k`. -/
def slotRect (k : Fin 6) : Rect S1792x1024 :=
  Rect.unit (s := S1792x1024) ![slotOff k, 0] ![slotLen k, 1024] (by revert k; decide)

theorem mem_slot (k : Fin 6) (i : S1792x1024.Idx) : i ∈ (slotRect k).set ↔ slotOff k ≤ (i 0).val ∧ (i 0).val < slotOff k + slotLen k := by
  unfold slotRect
  rw [Rect.mem_set_unit]
  have h1 : (i 1).val < 1024 := (i 1).isLt
  constructor
  · intro h; exact h 0
  · intro h a
    match a with
    | 0 => exact h
    | 1 => exact ⟨Nat.zero_le _, by show _ < 0 + 1024; omega⟩

theorem slot_disj (k k' : Fin 6) (h : k ≠ k') : Disjoint (slotRect k).set (slotRect k').set := by
  rw [Finset.disjoint_left]
  intro i hi hj
  rw [mem_slot] at hi hj
  have ho : slotOff k + slotLen k ≤ slotOff k' ∨ slotOff k' + slotLen k' ≤ slotOff k := by clear hi hj; revert k k'; decide
  omega

theorem slot_cover : Finset.univ.biUnion (fun k => (slotRect k).set) = (Finset.univ : Finset S1792x1024.Idx) := by
  refine Finset.eq_univ_of_forall fun i => Finset.mem_biUnion.mpr ?_
  have h0 : (i 0).val < 1792 := (i 0).isLt
  have ex : ∀ n < 1792, n < 512 ∨ (512 ≤ n ∧ n < 768) ∨ (768 ≤ n ∧ n < 896) ∨ (896 ≤ n ∧ n < 1024) ∨ (1024 ≤ n ∧ n < 1280) ∨ (1280 ≤ n ∧ n < 1792) := by
    intro n hn; omega
  rcases ex _ h0 with h | h | h | h | h | h
  · exact ⟨0, Finset.mem_univ _, (mem_slot 0 i).mpr ⟨Nat.zero_le _, h⟩⟩
  · exact ⟨1, Finset.mem_univ _, (mem_slot 1 i).mpr h⟩
  · exact ⟨2, Finset.mem_univ _, (mem_slot 2 i).mpr h⟩
  · exact ⟨3, Finset.mem_univ _, (mem_slot 3 i).mpr h⟩
  · exact ⟨4, Finset.mem_univ _, (mem_slot 4 i).mpr h⟩
  · exact ⟨5, Finset.mem_univ _, (mem_slot 5 i).mpr h⟩

/-- A star over the six slots, written out. -/
theorem star_slots (Φ : Fin 6 → sProp 𝕄) : bigSep Finset.univ Φ = iprop(Φ 0 ∗ Φ 1 ∗ Φ 2 ∗ Φ 3 ∗ Φ 4 ∗ Φ 5) := by
  rw [bigSep_univ_eq_bigSepL [(0 : Fin 6), 1, 2, 3, 4, 5] (by decide) (by decide) _]
  rfl

/-- The send buffer held whole is its six slots held, whatever they hold. -/
theorem snd_split (c : Dev nD) (f : Buf (Elt F) (sndM.view.loc (c : Thread nD τ))) :
    (sndM.view.loc (c : Thread nD τ) ↦{fullShare} f : sProp 𝕄)
      ⊢ iprop(heldAny (F := F) sM0 c ∗ heldAny (F := F) sM1 c ∗ heldAny (F := F) sM2 c ∗ heldAny (F := F) sM3 c ∗ heldAny (F := F) sM4 c ∗ heldAny (F := F) sM5 c) := by
  rw [pointsTo_blocks (fun k => (slotRect k).set) slot_disj slot_cover f, star_slots]
  unfold heldAny
  rw [View.set_slice_whole, View.set_slice_whole, View.set_slice_whole, View.set_slice_whole, View.set_slice_whole, View.set_slice_whole]
  iintro ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5

/-- The six slots of the send buffer are the buffer held whole, at some contents. -/
theorem snd_join (c : Dev nD) :
    iprop(heldAny (F := F) sM0 c ∗ heldAny (F := F) sM1 c ∗ heldAny (F := F) sM2 c ∗ heldAny (F := F) sM3 c ∗ heldAny (F := F) sM4 c ∗ heldAny (F := F) sM5 c)
      ⊢ (iprop(∃ f : Buf (Elt F) (sndM.view.loc (c : Thread nD τ)), sndM.view.loc (c : Thread nD τ) ↦{fullShare} f) : sProp 𝕄) := by
  refine BI.Entails.trans ?_ (pointsTo_blocks_join_exists (ℓ := sndM.view.loc (c : Thread nD τ)) (fun k => (slotRect k).set) slot_disj slot_cover fun _ => Classical.arbitrary _)
  rw [star_slots]
  unfold heldAny
  rw [View.set_slice_whole, View.set_slice_whole, View.set_slice_whole, View.set_slice_whole, View.set_slice_whole, View.set_slice_whole]
  rfl

/-- The receive buffer held whole is its six slots held, whatever they hold. -/
theorem rcv_split (c : Dev nD) (f : Buf (Elt F) (rcvM.view.loc (c : Thread nD τ))) :
    (rcvM.view.loc (c : Thread nD τ) ↦{fullShare} f : sProp 𝕄)
      ⊢ iprop(heldAny (F := F) rM0 c ∗ heldAny (F := F) rM1 c ∗ heldAny (F := F) rM2 c ∗ heldAny (F := F) rM3 c ∗ heldAny (F := F) rM4 c ∗ heldAny (F := F) rM5 c) := by
  rw [pointsTo_blocks (fun k => (slotRect k).set) slot_disj slot_cover f, star_slots]
  unfold heldAny
  rw [View.set_slice_whole, View.set_slice_whole, View.set_slice_whole, View.set_slice_whole, View.set_slice_whole, View.set_slice_whole]
  iintro ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5

/-- The six slots of the receive buffer are the buffer held whole, at some contents. -/
theorem rcv_join (c : Dev nD) :
    iprop(heldAny (F := F) rM0 c ∗ heldAny (F := F) rM1 c ∗ heldAny (F := F) rM2 c ∗ heldAny (F := F) rM3 c ∗ heldAny (F := F) rM4 c ∗ heldAny (F := F) rM5 c)
      ⊢ (iprop(∃ f : Buf (Elt F) (rcvM.view.loc (c : Thread nD τ)), rcvM.view.loc (c : Thread nD τ) ↦{fullShare} f) : sProp 𝕄) := by
  refine BI.Entails.trans ?_ (pointsTo_blocks_join_exists (ℓ := rcvM.view.loc (c : Thread nD τ)) (fun k => (slotRect k).set) slot_disj slot_cover fun _ => Classical.arbitrary _)
  rw [star_slots]
  unfold heldAny
  rw [View.set_slice_whole, View.set_slice_whole, View.set_slice_whole, View.set_slice_whole, View.set_slice_whole, View.set_slice_whole]
  rfl

end Cert.Xchg

end
-- ==== Proof.Contents.lean ====
/-
  What each device sends in each step of the exchange, and what its result buffer holds after it.
-/
module

public import proofs.«01_k».proof.Proof.Attn
public import proofs.«01_k».proof.Proof.Slots

@[expose] public section

set_option maxRecDepth 16384

noncomputable section

namespace Cert.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- The contents of a result buffer. -/
abbrev OutB (F : FTy → Type) [FloatOps F] : Type := oM.view.ty.Idx → Elt F oM.view.ty.elt

/-- The 512 rows of a result buffer that start at `o`. -/
abbrev rect512 (o : Fin 3 → ℕ) (h : ∀ a, o a + S1x512x1024.size a ≤ S1x1024x1024.size a) : Rect S1x1024x1024 := Rect.unit (s := S1x1024x1024) o S1x512x1024.size h
abbrev rows512 (o : Fin 3 → ℕ) (h : ∀ a, o a + S1x512x1024.size a ≤ S1x1024x1024.size a) (f : OutB F) : Vec F S1x512x1024 .f32 :=
  oM.view.readAt (Elt F) (rect512 o h).toLoadRect f

/-- The 256 rows of a result buffer that start at `o`. -/
abbrev rect256 (o : Fin 3 → ℕ) (h : ∀ a, o a + S1x256x1024.size a ≤ S1x1024x1024.size a) : Rect S1x1024x1024 := Rect.unit (s := S1x1024x1024) o S1x256x1024.size h
abbrev rows256 (o : Fin 3 → ℕ) (h : ∀ a, o a + S1x256x1024.size a ≤ S1x1024x1024.size a) (f : OutB F) : Vec F S1x256x1024 .f32 :=
  oM.view.readAt (Elt F) (rect256 o h).toLoadRect f

/-- The 128 rows of a result buffer that start at `o`. -/
abbrev rect128 (o : Fin 3 → ℕ) (h : ∀ a, o a + S1x128x1024.size a ≤ S1x1024x1024.size a) : Rect S1x1024x1024 := Rect.unit (s := S1x1024x1024) o S1x128x1024.size h
abbrev rows128 (o : Fin 3 → ℕ) (h : ∀ a, o a + S1x128x1024.size a ≤ S1x1024x1024.size a) (f : OutB F) : Vec F S1x128x1024 .f32 :=
  oM.view.readAt (Elt F) (rect128 o h).toLoadRect f

/-- Step 0: a device sends the block it gives up; into the block it keeps it adds what its partner sent. -/
def snd0 (O : Dev nD → OutB F) (c : Dev nD) : FVec F S512x1024 .bf16 := k0_pay46 (rows512 (k0_off2 c) (k0_off2_inb c) (O c))
abbrev got0 (O : Dev nD → OutB F) (c : Dev nD) : FVec F S512x1024 .bf16 := snd0 O (par 2 c)
def next0 (O : Dev nD → OutB F) (c : Dev nD) : OutB F :=
  oM.view.writes (Elt F) (O c) [⟨rect512 (k0_off3 c) (k0_off3_inb c), k0_pay47 (rows512 (k0_off3 c) (k0_off3_inb c) (O c)) (got0 O c)⟩]

/-- Step 1: a device sends the block it gives up; into the block it keeps it adds what its partner sent. -/
def snd1 (O : Dev nD → OutB F) (c : Dev nD) : FVec F S256x1024 .bf16 := k0_pay48 (rows256 (k0_off4 c) (k0_off4_inb c) (O c))
abbrev got1 (O : Dev nD → OutB F) (c : Dev nD) : FVec F S256x1024 .bf16 := snd1 O (par 1 c)
def next1 (O : Dev nD → OutB F) (c : Dev nD) : OutB F :=
  oM.view.writes (Elt F) (O c) [⟨rect256 (k0_off5 c) (k0_off5_inb c), k0_pay49 (rows256 (k0_off5 c) (k0_off5_inb c) (O c)) (got1 O c)⟩]

/-- Step 2: a device sends the block it gives up; into the block it keeps it adds what its partner sent. -/
def snd2 (O : Dev nD → OutB F) (c : Dev nD) : FVec F S128x1024 .bf16 := k0_pay50 (rows128 (k0_off6 c) (k0_off6_inb c) (O c))
abbrev got2 (O : Dev nD → OutB F) (c : Dev nD) : FVec F S128x1024 .bf16 := snd2 O (par 0 c)
def next2 (O : Dev nD → OutB F) (c : Dev nD) : OutB F :=
  oM.view.writes (Elt F) (O c) [⟨rect128 (k0_off7 c) (k0_off7_inb c), k0_pay52 (k0_pay51 (rows128 (k0_off7 c) (k0_off7_inb c) (O c)) (got2 O c))⟩]

/-- Step 3: a device sends the block it has; beside it goes what its partner sent. -/
def snd3 (O : Dev nD → OutB F) (c : Dev nD) : FVec F S128x1024 .bf16 := k0_pay53 (rows128 (k0_off7 c) (k0_off7_inb c) (O c))
abbrev got3 (O : Dev nD → OutB F) (c : Dev nD) : FVec F S128x1024 .bf16 := snd3 O (par 0 c)
def next3 (O : Dev nD → OutB F) (c : Dev nD) : OutB F :=
  oM.view.writes (Elt F) (O c) [⟨rect128 (k0_off8 c) (k0_off8_inb c), k0_pay54 (got3 O c)⟩]

/-- Step 4: a device sends the block it has; beside it goes what its partner sent. -/
def snd4 (O : Dev nD → OutB F) (c : Dev nD) : FVec F S256x1024 .bf16 := k0_pay55 (rows256 (k0_off9 c) (k0_off9_inb c) (O c))
abbrev got4 (O : Dev nD → OutB F) (c : Dev nD) : FVec F S256x1024 .bf16 := snd4 O (par 1 c)
def next4 (O : Dev nD → OutB F) (c : Dev nD) : OutB F :=
  oM.view.writes (Elt F) (O c) [⟨rect256 (k0_off10 c) (k0_off10_inb c), k0_pay56 (got4 O c)⟩]

/-- Step 5: a device sends the block it has; beside it goes what its partner sent. -/
def snd5 (O : Dev nD → OutB F) (c : Dev nD) : FVec F S512x1024 .bf16 := k0_pay57 (rows512 (k0_off11 c) (k0_off11_inb c) (O c))
abbrev got5 (O : Dev nD → OutB F) (c : Dev nD) : FVec F S512x1024 .bf16 := snd5 O (par 2 c)
def next5 (O : Dev nD → OutB F) (c : Dev nD) : OutB F :=
  oM.view.writes (Elt F) (O c) [⟨rect512 (k0_off12 c) (k0_off12_inb c), k0_pay1 (got5 O c)⟩]

section
variable (O : Dev nD → OutB F)
/-- The result buffers after one step, two, and so on. -/
def out1 : Dev nD → OutB F := next0 O
def out2 : Dev nD → OutB F := next1 (out1 O)
def out3 : Dev nD → OutB F := next2 (out2 O)
def out4 : Dev nD → OutB F := next3 (out3 O)
def out5 : Dev nD → OutB F := next4 (out4 O)
def out6 : Dev nD → OutB F := next5 (out5 O)

/-- Everything sent, from the contents the exchange starts from. -/
def msgs : Msgs F where
  m0 := snd0 O
  m1 := snd1 (out1 O)
  m2 := snd2 (out2 O)
  m3 := snd3 (out3 O)
  m4 := snd4 (out4 O)
  m5 := snd5 (out5 O)
end

end Cert.Xchg

end
-- ==== Proof.Exch.lean ====
/-
  The exchange run through: six steps from the context's product to the sum over the devices.
-/
module

public import proofs.«01_k».proof.Proof.Contents

@[expose] public section

set_option maxRecDepth 16384

noncomputable section

namespace Cert.Xchg

open Cert.KernelIdeal Cert.KernelIdeal.Gen

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- The body after the context's load. -/
abbrev xchgProg (d0 : Dev nD) (v5 : BitVec 32) (v535 : Vec F S1024x1024 .bf16) : Prog (TpuEff nD τ sig (Elt F) Λ₀ .tc) PUnit := do
  let ⟨v546, v561⟩ ← args (k0_part16 (F := F)) d0 v5 v535
  let ⟨v593, v595, c1_i32_366⟩ ← args (k0_part17 (F := F)) d0 v5 v546 v561
  args (k0_part18 (F := F)) d0 v5 v546 v593 c1_i32_366
  let ⟨v644, v656, v657⟩ ← args (k0_part19 (F := F)) d0 v5 v595
  let ⟨v684, c128_i32_447⟩ ← args (k0_part20 (F := F)) d0 v644 v656 v657
  let ⟨v690, v702⟩ ← args (k0_part21 (F := F)) d0 v5 v644 v684 c128_i32_447
  let ⟨v729, v730, v742, v743, c0_i32_498⟩ ← args (k0_part22 (F := F)) d0 v5 v644 v690 v702
  let ⟨v770, v771⟩ ← args (k0_part23 (F := F)) d0 v729 v730 v742 v743 c0_i32_498
  args (k0_part24 (F := F)) d0 v5 v771
  let v800 : Memref sig .tc .vmem S512x1024 .bf16 := sndM.slice (Rect.unit (s := S1792x1024) ![1280, 0] S512x1024.size inb_S1792x1024_S512x1024_1280_0) (fun _ => rfl)
  let v797 : DmaSems sig S1 := cc0_scratch6.slice (Rect.unit (s := S6) ![5] S1.size inb_S6_S1_5)
  let v798 : DmaSems sig S_ := v797.squeeze S_ squeezes_S1_S_
  let v799 : Memref sig .tc .vmem S512x1024 .bf16 := rcvM.slice (Rect.unit (s := S1792x1024) ![1280, 0] S512x1024.size inb_S1792x1024_S512x1024_1280_0) (fun _ => rfl)
  Prog.lift (.waitDma2 v798.sem v800 v799 ((Memref.isWhole_whole cc0_scratch2).wordExact_slice rfl _ wordsbf16_S1792x1024_S512x1024_1280_0) ((Memref.isWhole_whole cc0_scratch3).wordExact_slice rfl _ wordsbf16_S1792x1024_S512x1024_1280_0))
  let v801 : Vec F S512x1024 .bf16 ← Prog.lift (.load rcvM (Rect.unit (s := S1792x1024) ![1280, 0] S512x1024.size inb_S1792x1024_S512x1024_1280_0).toLoadRect (View.loadsAt_vmem h_S512x1024))
  let v805 : Vec F S1x512x1024 .f32 ← Prog.lift (.load oM (Rect.unit (s := S1x1024x1024) (k0_off12 d0) S1x512x1024.size (k0_off12_inb d0)).toLoadRect (View.loadsAt_vmem h_S1x512x1024))
  Prog.lift (.store oM (Rect.unit (s := S1x1024x1024) (k0_off12 d0) S1x512x1024.size (k0_off12_inb d0)) (k0_pay1 v801) Finset.univ (View.stores_vmem_bits_univ h_S1x512x1024 rfl) (.inl rfl))
  pure ⟨⟩

/-- The body is the run up to the context's load followed by the exchange. -/
theorem body_split : args (cc0_body_skel (F := F)) = attnProg xchgProg := rfl

/-- A slot held at `X`, spelt out. -/
theorem held_open {s : Shape} (M : Memref sig .tc .vmem s .bf16) (d : Dev nD) (X : FVec F s .bf16) :
    heldAt M d X ⊢ (M.view.loc (d : Thread nD τ) ↦[M.view.set]{fullShare} M.view.rep X : sProp 𝕄) := by
  unfold heldAt; iintro H; iexact H

theorem slot_read0 (X : FVec F S512x1024 .bf16) :
    View.readAt (Elt F) (Memref.whole cc0_scratch3).view (Rect.unit (s := S1792x1024) ![0, 0] S512x1024.size inb_S1792x1024_S512x1024_0_0).toLoadRect (rM0.view.rep X) = X :=
  View.read_rep ..

theorem slot_read1 (X : FVec F S256x1024 .bf16) :
    View.readAt (Elt F) (Memref.whole cc0_scratch3).view (Rect.unit (s := S1792x1024) ![512, 0] S256x1024.size inb_S1792x1024_S256x1024_512_0).toLoadRect (rM1.view.rep X) = X :=
  View.read_rep ..

theorem slot_read2 (X : FVec F S128x1024 .bf16) :
    View.readAt (Elt F) (Memref.whole cc0_scratch3).view (Rect.unit (s := S1792x1024) ![768, 0] S128x1024.size inb_S1792x1024_S128x1024_768_0).toLoadRect (rM2.view.rep X) = X :=
  View.read_rep ..

theorem slot_read3 (X : FVec F S128x1024 .bf16) :
    View.readAt (Elt F) (Memref.whole cc0_scratch3).view (Rect.unit (s := S1792x1024) ![896, 0] S128x1024.size inb_S1792x1024_S128x1024_896_0).toLoadRect (rM3.view.rep X) = X :=
  View.read_rep ..

theorem slot_read4 (X : FVec F S256x1024 .bf16) :
    View.readAt (Elt F) (Memref.whole cc0_scratch3).view (Rect.unit (s := S1792x1024) ![1024, 0] S256x1024.size inb_S1792x1024_S256x1024_1024_0).toLoadRect (rM4.view.rep X) = X :=
  View.read_rep ..

theorem slot_read5 (X : FVec F S512x1024 .bf16) :
    View.readAt (Elt F) (Memref.whole cc0_scratch3).view (Rect.unit (s := S1792x1024) ![1280, 0] S512x1024.size inb_S1792x1024_S512x1024_1280_0).toLoadRect (rM5.view.rep X) = X :=
  View.read_rep ..

set_option maxHeartbeats 8000000 in
/-- From the product's store on: the result buffer ends as the six steps say, every slot is back, and nothing is owed. -/
theorem xchgRun (O : Dev nD → OutB F) (K : Dev nD × CI → ℕ) (c : Dev nD) (v5 : BitVec 32) (X : Vec F S1024x1024 .bf16)
    (f4 : Buf (Elt F) (woM.view.loc (c : Thread nD τ))) (f5 : Buf (Elt F) (oM.view.loc (c : Thread nD τ)))
    (hO : oM.view.writes (Elt F) f5 [⟨Rect.unit ![0, 0, 0] S1x1024x1024.size inb_S1x1024x1024_S1x1024x1024_0_0_0,
        k0_pay45 X (View.readAt (Elt F) woM.view (Rect.unit ![0, 0] S1024x1024.size inb_S1024x1024_S1024x1024_0_0).toLoadRect f4)⟩] = O c)
    (W : Waits sig Unit) (Q : PUnit → sProp 𝕄) :
    iprop(levAts L lv ∗ invAll (msgs O) K
      ∗ (woM.view.loc (c : Thread nD τ) ↦{fullShare} f4) ∗ (oM.view.loc (c : Thread nD τ) ↦{fullShare} f5)
      ∗ (heldAny (F := F) sM0 c ∗ heldAny (F := F) sM1 c ∗ heldAny (F := F) sM2 c ∗ heldAny (F := F) sM3 c ∗ heldAny (F := F) sM4 c ∗ heldAny (F := F) sM5 c)
      ∗ (heldAny (F := F) rM0 (par 2 c) ∗ heldAny (F := F) rM1 (par 1 c) ∗ heldAny (F := F) rM2 (par 0 c) ∗ heldAny (F := F) rM3 (par 0 c) ∗ heldAny (F := F) rM4 (par 1 c) ∗ heldAny (F := F) rM5 (par 2 c))
      ∗ (dutyTok ER (sCell 0 c) 0 (0 : Fin 3) ∗ dutyTok ER (sCell 1 c) 0 (0 : Fin 3) ∗ dutyTok ER (sCell 2 c) 0 (0 : Fin 3) ∗ dutyTok ER (sCell 3 c) 0 (0 : Fin 3) ∗ dutyTok ER (sCell 4 c) 0 (0 : Fin 3) ∗ dutyTok ER (sCell 5 c) 0 (0 : Fin 3))
      ∗ (dutyTok ER (rCell 0 (par 2 c)) 0 (0 : Fin 3) ∗ dutyTok ER (rCell 1 (par 1 c)) 0 (0 : Fin 3) ∗ dutyTok ER (rCell 2 (par 0 c)) 0 (0 : Fin 3) ∗ dutyTok ER (rCell 3 (par 0 c)) 0 (0 : Fin 3) ∗ dutyTok ER (rCell 4 (par 1 c)) 0 (0 : Fin 3) ∗ dutyTok ER (rCell 5 (par 2 c)) 0 (0 : Fin 3))
      ∗ (atPos ER (sCell 0 c) 0 ∅ 0 ∗ atPos ER (sCell 1 c) 0 ∅ 0 ∗ atPos ER (sCell 2 c) 0 ∅ 0 ∗ atPos ER (sCell 3 c) 0 ∅ 0 ∗ atPos ER (sCell 4 c) 0 ∅ 0 ∗ atPos ER (sCell 5 c) 0 ∅ 0)
      ∗ (atPos ER (rCell 0 c) 0 ∅ 0 ∗ atPos ER (rCell 1 c) 0 ∅ 0 ∗ atPos ER (rCell 2 c) 0 ∅ 0 ∗ atPos ER (rCell 3 c) 0 ∅ 0 ∗ atPos ER (rCell 4 c) 0 ∅ 0 ∗ atPos ER (rCell 5 c) 0 ∅ 0)
      ∗ (cred (tallyAt (rCell 0 c) () (amt 0)) ∗ cred (tallyAt (rCell 1 c) () (amt 1)) ∗ cred (tallyAt (rCell 2 c) () (amt 2)) ∗ cred (tallyAt (rCell 3 c) () (amt 3)) ∗ cred (tallyAt (rCell 4 c) () (amt 4)) ∗ cred (tallyAt (rCell 5 c) () (amt 5)))
      ∗ owes (c : Thread nD τ) (Ow c 0) W
      ∗ (∀ W' : Waits sig Unit, (woM.view.loc (c : Thread nD τ) ↦{fullShare} f4) -∗ (oM.view.loc (c : Thread nD τ) ↦{fullShare} out6 O c)
          -∗ (heldAny (F := F) sM0 c ∗ heldAny (F := F) sM1 c ∗ heldAny (F := F) sM2 c ∗ heldAny (F := F) sM3 c ∗ heldAny (F := F) sM4 c ∗ heldAny (F := F) sM5 c)
          -∗ (heldAny (F := F) rM0 c ∗ heldAny (F := F) rM1 c ∗ heldAny (F := F) rM2 c ∗ heldAny (F := F) rM3 c ∗ heldAny (F := F) rM4 c ∗ heldAny (F := F) rM5 c)
          -∗ (atPos ER (sCell 0 c) 1 ∅ 0 ∗ atPos ER (sCell 1 c) 1 ∅ 0 ∗ atPos ER (sCell 2 c) 1 ∅ 0 ∗ atPos ER (sCell 3 c) 1 ∅ 0 ∗ atPos ER (sCell 4 c) 1 ∅ 0 ∗ atPos ER (sCell 5 c) 1 ∅ 0)
          -∗ (atPos ER (rCell 0 c) 1 ∅ 0 ∗ atPos ER (rCell 1 c) 1 ∅ 0 ∗ atPos ER (rCell 2 c) 1 ∅ 0 ∗ atPos ER (rCell 3 c) 1 ∅ 0 ∗ atPos ER (rCell 4 c) 1 ∅ 0 ∗ atPos ER (rCell 5 c) 1 ∅ 0)
          -∗ owes (c : Thread nD τ) (Ow c 6) W' -∗ Q ⟨⟩))
      ⊢ wp frame (wpE (defs₀ (F := F)) 𝒱₀ (c : Thread nD τ) none) Set.univ (xchgProg c v5 X) Q := by
  iintro ⟨#Hlev, #I, H4, H5, ⟨S0, S1, S2, S3, S4, S5⟩, ⟨N0, N1, N2, N3, N4, N5⟩, ⟨A0, A1, A2, A3, A4, A5⟩, ⟨B0, B1, B2, B3, B4, B5⟩, ⟨P0, P1, P2, P3, P4, P5⟩, ⟨R0, R1, R2, R3, R4, R5⟩, ⟨C0, C1, C2, C3, C4, C5⟩, HO, Hk⟩
  set_option sl_exec.maxSteps 5 in sl_exec
  rw [hO]
  clear hO
  -- step 0
  unfold heldAny
  icases S0 with ⟨%g0, S0⟩
  sl_exec
  ihave S0 : heldAt sM0 c (snd0 O c) $$ [S0]
  · iapply (heldAt_of_read sM0 c (snd0 O c) (xchgRun.sl.S0_w1 O c g0) (View.read_write_univ ..)) $$ S0
  ihave #J0 := inv_at (msgs O) K (c, .inr (.inl 0)) $$ I
  ihave #L0 := inv_at (msgs O) K (c, .inr (.inr 0)) $$ I
  ihave #M0 := inv_at (msgs O) K (par 2 c, .inr (.inr 0)) $$ I
  icases J0 with ⟨#Ja0, #Jb0⟩
  icases L0 with ⟨#La0, #Lb0⟩
  icases M0 with ⟨#Ma0, #Mb0⟩
  iapply (send_step (msgs O) 0 sM0 rM0 c (par 2 c) (snd0 O c) rfl
    (by show heldAt rM0 (par 2 c) (snd0 O (par 2 (par 2 c))) = _; rw [par_par]) (fun _ => rfl) (dev4_eq c) sem_s0 sem_r0 _ _ (Ow c 1) _) $$ [S0 N0 A0 B0 HO]
  · isplitl []; · iexact Ja0
    isplitl []; · iexact Ma0
    isplitl [S0]; · iexact S0
    isplitl [N0]; · unfold heldAny; iexact N0
    isplitl [HO]; · iexact HO
    isplitl [A0]; · iexact A0
    isplitl []; · iexact Jb0
    isplitl [B0]; · iexact B0
    iexact Mb0
  iintro ⟨Cs0, HO⟩
  sl_exec
  iapply (wait_s_step (msgs O) 0 _ sM0 c sem_s0 (P := heldAny (F := F) sM0 c) rfl rfl _ (Ow c 1) _) $$ [Cs0 HO P0]
  · isplitl []; · iexact Ja0
    isplitl [Cs0]; · iexact Cs0
    isplitl [HO]; · iexact HO
    isplitl []; · iapply (mayWait_Ow (F := F) c 1 (.dma (sS 0)) (by decide)) $$ Hlev
    iexact P0
  iintro ⟨HO, P0, S0⟩
  sl_exec
  iapply (wait_r_step (msgs O) 0 _ rM0 c sem_r0 (P := heldAt rM0 c (got0 O c)) rfl rfl _ (Ow c 1) _) $$ [C0 HO R0]
  · isplitl []; · iexact La0
    isplitl [C0]; · iexact C0
    isplitl [HO]; · iexact HO
    isplitl []; · iapply (mayWait_Ow (F := F) c 1 (.dma (rS 0)) (by decide)) $$ Hlev
    iexact R0
  iintro ⟨HO, R0, N0⟩
  ihave N0 : iprop(rM0.view.loc (c : Thread nD τ) ↦[rM0.view.set]{fullShare} rM0.view.rep (got0 O c)) $$ [N0]
  · iapply (held_open rM0 c (got0 O c)) $$ N0
  set_option sl_exec.maxSteps 4 in sl_exec
  rw [slot_read0]
  ihave H5 : iprop(oM.view.loc (c : Thread nD τ) ↦{fullShare} (out1 O) c) $$ [H5]
  · iexact H5
  -- step 1
  unfold heldAny
  icases S1 with ⟨%g1, S1⟩
  sl_exec
  ihave S1 : heldAt sM1 c (snd1 (out1 O) c) $$ [S1]
  · iapply (heldAt_of_read sM1 c (snd1 (out1 O) c) (xchgRun.sl.S1_w1 O c g1) (View.read_write_univ ..)) $$ S1
  ihave #J1 := inv_at (msgs O) K (c, .inr (.inl 1)) $$ I
  ihave #L1 := inv_at (msgs O) K (c, .inr (.inr 1)) $$ I
  ihave #M1 := inv_at (msgs O) K (par 1 c, .inr (.inr 1)) $$ I
  icases J1 with ⟨#Ja1, #Jb1⟩
  icases L1 with ⟨#La1, #Lb1⟩
  icases M1 with ⟨#Ma1, #Mb1⟩
  iapply (send_step (msgs O) 1 sM1 rM1 c (par 1 c) (snd1 (out1 O) c) rfl
    (by show heldAt rM1 (par 1 c) (snd1 (out1 O) (par 1 (par 1 c))) = _; rw [par_par]) (fun _ => rfl) (dev5_eq c) sem_s1 sem_r1 _ _ (Ow c 2) _) $$ [S1 N1 A1 B1 HO]
  · isplitl []; · iexact Ja1
    isplitl []; · iexact Ma1
    isplitl [S1]; · iexact S1
    isplitl [N1]; · unfold heldAny; iexact N1
    isplitl [HO]; · iexact HO
    isplitl [A1]; · iexact A1
    isplitl []; · iexact Jb1
    isplitl [B1]; · iexact B1
    iexact Mb1
  iintro ⟨Cs1, HO⟩
  sl_exec
  iapply (wait_s_step (msgs O) 1 _ sM1 c sem_s1 (P := heldAny (F := F) sM1 c) rfl rfl _ (Ow c 2) _) $$ [Cs1 HO P1]
  · isplitl []; · iexact Ja1
    isplitl [Cs1]; · iexact Cs1
    isplitl [HO]; · iexact HO
    isplitl []; · iapply (mayWait_Ow (F := F) c 2 (.dma (sS 1)) (by decide)) $$ Hlev
    iexact P1
  iintro ⟨HO, P1, S1⟩
  sl_exec
  iapply (wait_r_step (msgs O) 1 _ rM1 c sem_r1 (P := heldAt rM1 c (got1 (out1 O) c)) rfl rfl _ (Ow c 2) _) $$ [C1 HO R1]
  · isplitl []; · iexact La1
    isplitl [C1]; · iexact C1
    isplitl [HO]; · iexact HO
    isplitl []; · iapply (mayWait_Ow (F := F) c 2 (.dma (rS 1)) (by decide)) $$ Hlev
    iexact R1
  iintro ⟨HO, R1, N1⟩
  ihave N1 : iprop(rM1.view.loc (c : Thread nD τ) ↦[rM1.view.set]{fullShare} rM1.view.rep (got1 (out1 O) c)) $$ [N1]
  · iapply (held_open rM1 c (got1 (out1 O) c)) $$ N1
  set_option sl_exec.maxSteps 4 in sl_exec
  rw [slot_read1]
  ihave H5 : iprop(oM.view.loc (c : Thread nD τ) ↦{fullShare} (out2 O) c) $$ [H5]
  · iexact H5
  -- step 2
  unfold heldAny
  icases S2 with ⟨%g2, S2⟩
  sl_exec
  ihave S2 : heldAt sM2 c (snd2 (out2 O) c) $$ [S2]
  · iapply (heldAt_of_read sM2 c (snd2 (out2 O) c) (xchgRun.sl.S2_w1 O c g2) (View.read_write_univ ..)) $$ S2
  ihave #J2 := inv_at (msgs O) K (c, .inr (.inl 2)) $$ I
  ihave #L2 := inv_at (msgs O) K (c, .inr (.inr 2)) $$ I
  ihave #M2 := inv_at (msgs O) K (par 0 c, .inr (.inr 2)) $$ I
  icases J2 with ⟨#Ja2, #Jb2⟩
  icases L2 with ⟨#La2, #Lb2⟩
  icases M2 with ⟨#Ma2, #Mb2⟩
  iapply (send_step (msgs O) 2 sM2 rM2 c (par 0 c) (snd2 (out2 O) c) rfl
    (by show heldAt rM2 (par 0 c) (snd2 (out2 O) (par 0 (par 0 c))) = _; rw [par_par]) (fun _ => rfl) (dev6_eq c) sem_s2 sem_r2 _ _ (Ow c 3) _) $$ [S2 N2 A2 B2 HO]
  · isplitl []; · iexact Ja2
    isplitl []; · iexact Ma2
    isplitl [S2]; · iexact S2
    isplitl [N2]; · unfold heldAny; iexact N2
    isplitl [HO]; · iexact HO
    isplitl [A2]; · iexact A2
    isplitl []; · iexact Jb2
    isplitl [B2]; · iexact B2
    iexact Mb2
  iintro ⟨Cs2, HO⟩
  sl_exec
  iapply (wait_s_step (msgs O) 2 _ sM2 c sem_s2 (P := heldAny (F := F) sM2 c) rfl rfl _ (Ow c 3) _) $$ [Cs2 HO P2]
  · isplitl []; · iexact Ja2
    isplitl [Cs2]; · iexact Cs2
    isplitl [HO]; · iexact HO
    isplitl []; · iapply (mayWait_Ow (F := F) c 3 (.dma (sS 2)) (by decide)) $$ Hlev
    iexact P2
  iintro ⟨HO, P2, S2⟩
  sl_exec
  iapply (wait_r_step (msgs O) 2 _ rM2 c sem_r2 (P := heldAt rM2 c (got2 (out2 O) c)) rfl rfl _ (Ow c 3) _) $$ [C2 HO R2]
  · isplitl []; · iexact La2
    isplitl [C2]; · iexact C2
    isplitl [HO]; · iexact HO
    isplitl []; · iapply (mayWait_Ow (F := F) c 3 (.dma (rS 2)) (by decide)) $$ Hlev
    iexact R2
  iintro ⟨HO, R2, N2⟩
  ihave N2 : iprop(rM2.view.loc (c : Thread nD τ) ↦[rM2.view.set]{fullShare} rM2.view.rep (got2 (out2 O) c)) $$ [N2]
  · iapply (held_open rM2 c (got2 (out2 O) c)) $$ N2
  set_option sl_exec.maxSteps 7 in sl_exec
  rw [show xchgRun.sl.r O c = k0_pay51 (rows128 (k0_off7 c) (k0_off7_inb c) (out2 O c)) (got2 (out2 O) c) from by delta xchgRun.sl.r; rw [slot_read2]]
  ihave H5 : iprop(oM.view.loc (c : Thread nD τ) ↦{fullShare} (out3 O) c) $$ [H5]
  · iexact H5
  -- step 3
  unfold heldAny
  icases S3 with ⟨%g3, S3⟩
  sl_exec
  ihave S3 : heldAt sM3 c (snd3 (out3 O) c) $$ [S3]
  · iapply (heldAt_of_read sM3 c (snd3 (out3 O) c) (xchgRun.sl.S3_w1 O c g3) (View.read_write_univ ..)) $$ S3
  ihave #J3 := inv_at (msgs O) K (c, .inr (.inl 3)) $$ I
  ihave #L3 := inv_at (msgs O) K (c, .inr (.inr 3)) $$ I
  ihave #M3 := inv_at (msgs O) K (par 0 c, .inr (.inr 3)) $$ I
  icases J3 with ⟨#Ja3, #Jb3⟩
  icases L3 with ⟨#La3, #Lb3⟩
  icases M3 with ⟨#Ma3, #Mb3⟩
  iapply (send_step (msgs O) 3 sM3 rM3 c (par 0 c) (snd3 (out3 O) c) rfl
    (by show heldAt rM3 (par 0 c) (snd3 (out3 O) (par 0 (par 0 c))) = _; rw [par_par]) (fun _ => rfl) (dev7_eq c) sem_s3 sem_r3 _ _ (Ow c 4) _) $$ [S3 N3 A3 B3 HO]
  · isplitl []; · iexact Ja3
    isplitl []; · iexact Ma3
    isplitl [S3]; · iexact S3
    isplitl [N3]; · unfold heldAny; iexact N3
    isplitl [HO]; · iexact HO
    isplitl [A3]; · iexact A3
    isplitl []; · iexact Jb3
    isplitl [B3]; · iexact B3
    iexact Mb3
  iintro ⟨Cs3, HO⟩
  sl_exec
  iapply (wait_s_step (msgs O) 3 _ sM3 c sem_s3 (P := heldAny (F := F) sM3 c) rfl rfl _ (Ow c 4) _) $$ [Cs3 HO P3]
  · isplitl []; · iexact Ja3
    isplitl [Cs3]; · iexact Cs3
    isplitl [HO]; · iexact HO
    isplitl []; · iapply (mayWait_Ow (F := F) c 4 (.dma (sS 3)) (by decide)) $$ Hlev
    iexact P3
  iintro ⟨HO, P3, S3⟩
  sl_exec
  iapply (wait_r_step (msgs O) 3 _ rM3 c sem_r3 (P := heldAt rM3 c (got3 (out3 O) c)) rfl rfl _ (Ow c 4) _) $$ [C3 HO R3]
  · isplitl []; · iexact La3
    isplitl [C3]; · iexact C3
    isplitl [HO]; · iexact HO
    isplitl []; · iapply (mayWait_Ow (F := F) c 4 (.dma (rS 3)) (by decide)) $$ Hlev
    iexact R3
  iintro ⟨HO, R3, N3⟩
  ihave N3 : iprop(rM3.view.loc (c : Thread nD τ) ↦[rM3.view.set]{fullShare} rM3.view.rep (got3 (out3 O) c)) $$ [N3]
  · iapply (held_open rM3 c (got3 (out3 O) c)) $$ N3
  set_option sl_exec.maxSteps 3 in sl_exec
  rw [slot_read3]
  ihave H5 : iprop(oM.view.loc (c : Thread nD τ) ↦{fullShare} (out4 O) c) $$ [H5]
  · iexact H5
  -- step 4
  unfold heldAny
  icases S4 with ⟨%g4, S4⟩
  sl_exec
  ihave S4 : heldAt sM4 c (snd4 (out4 O) c) $$ [S4]
  · iapply (heldAt_of_read sM4 c (snd4 (out4 O) c) (xchgRun.sl.S4_w1 O c g4) (View.read_write_univ ..)) $$ S4
  ihave #J4 := inv_at (msgs O) K (c, .inr (.inl 4)) $$ I
  ihave #L4 := inv_at (msgs O) K (c, .inr (.inr 4)) $$ I
  ihave #M4 := inv_at (msgs O) K (par 1 c, .inr (.inr 4)) $$ I
  icases J4 with ⟨#Ja4, #Jb4⟩
  icases L4 with ⟨#La4, #Lb4⟩
  icases M4 with ⟨#Ma4, #Mb4⟩
  iapply (send_step (msgs O) 4 sM4 rM4 c (par 1 c) (snd4 (out4 O) c) rfl
    (by show heldAt rM4 (par 1 c) (snd4 (out4 O) (par 1 (par 1 c))) = _; rw [par_par]) (fun _ => rfl) (dev8_eq c) sem_s4 sem_r4 _ _ (Ow c 5) _) $$ [S4 N4 A4 B4 HO]
  · isplitl []; · iexact Ja4
    isplitl []; · iexact Ma4
    isplitl [S4]; · iexact S4
    isplitl [N4]; · unfold heldAny; iexact N4
    isplitl [HO]; · iexact HO
    isplitl [A4]; · iexact A4
    isplitl []; · iexact Jb4
    isplitl [B4]; · iexact B4
    iexact Mb4
  iintro ⟨Cs4, HO⟩
  sl_exec
  iapply (wait_s_step (msgs O) 4 _ sM4 c sem_s4 (P := heldAny (F := F) sM4 c) rfl rfl _ (Ow c 5) _) $$ [Cs4 HO P4]
  · isplitl []; · iexact Ja4
    isplitl [Cs4]; · iexact Cs4
    isplitl [HO]; · iexact HO
    isplitl []; · iapply (mayWait_Ow (F := F) c 5 (.dma (sS 4)) (by decide)) $$ Hlev
    iexact P4
  iintro ⟨HO, P4, S4⟩
  sl_exec
  iapply (wait_r_step (msgs O) 4 _ rM4 c sem_r4 (P := heldAt rM4 c (got4 (out4 O) c)) rfl rfl _ (Ow c 5) _) $$ [C4 HO R4]
  · isplitl []; · iexact La4
    isplitl [C4]; · iexact C4
    isplitl [HO]; · iexact HO
    isplitl []; · iapply (mayWait_Ow (F := F) c 5 (.dma (rS 4)) (by decide)) $$ Hlev
    iexact R4
  iintro ⟨HO, R4, N4⟩
  ihave N4 : iprop(rM4.view.loc (c : Thread nD τ) ↦[rM4.view.set]{fullShare} rM4.view.rep (got4 (out4 O) c)) $$ [N4]
  · iapply (held_open rM4 c (got4 (out4 O) c)) $$ N4
  set_option sl_exec.maxSteps 3 in sl_exec
  rw [slot_read4]
  ihave H5 : iprop(oM.view.loc (c : Thread nD τ) ↦{fullShare} (out5 O) c) $$ [H5]
  · iexact H5
  -- step 5
  unfold heldAny
  icases S5 with ⟨%g5, S5⟩
  sl_exec
  ihave S5 : heldAt sM5 c (snd5 (out5 O) c) $$ [S5]
  · iapply (heldAt_of_read sM5 c (snd5 (out5 O) c) (xchgRun.sl.S5_w1 O c g5) (View.read_write_univ ..)) $$ S5
  ihave #J5 := inv_at (msgs O) K (c, .inr (.inl 5)) $$ I
  ihave #L5 := inv_at (msgs O) K (c, .inr (.inr 5)) $$ I
  ihave #M5 := inv_at (msgs O) K (par 2 c, .inr (.inr 5)) $$ I
  icases J5 with ⟨#Ja5, #Jb5⟩
  icases L5 with ⟨#La5, #Lb5⟩
  icases M5 with ⟨#Ma5, #Mb5⟩
  iapply (send_step (msgs O) 5 sM5 rM5 c (par 2 c) (snd5 (out5 O) c) rfl
    (by show heldAt rM5 (par 2 c) (snd5 (out5 O) (par 2 (par 2 c))) = _; rw [par_par]) (fun _ => rfl) (dev9_eq c) sem_s5 sem_r5 _ _ (Ow c 6) _) $$ [S5 N5 A5 B5 HO]
  · isplitl []; · iexact Ja5
    isplitl []; · iexact Ma5
    isplitl [S5]; · iexact S5
    isplitl [N5]; · unfold heldAny; iexact N5
    isplitl [HO]; · rw [show Ow c 6 + tallyAt (rCell 5 (par 2 c)) () (amt (5 : Fin 6).val) = Ow c 5 from zero_add _]; iexact HO
    isplitl [A5]; · iexact A5
    isplitl []; · iexact Jb5
    isplitl [B5]; · iexact B5
    iexact Mb5
  iintro ⟨Cs5, HO⟩
  sl_exec
  ihave S5 : heldAny (F := F) sM5 c $$ [P5_pay1]
  · rw [show heldAny (F := F) sM5 c = dmaPay (msgs O) c (6 + (5 : Fin 6).val) from rfl, ← rest_s (msgs O) c 5]; iexact P5_pay1
  ihave N5 : heldAt rM5 c (got5 (out5 O) c) $$ [R5_pay1]
  · rw [show heldAt rM5 c (got5 (out5 O) c) = dmaPay (msgs O) c (12 + (5 : Fin 6).val) from rfl, ← rest_r (msgs O) c 5]; iexact R5_pay1
  ihave N5 : iprop(rM5.view.loc (c : Thread nD τ) ↦[rM5.view.set]{fullShare} rM5.view.rep (got5 (out5 O) c)) $$ [N5]
  · iapply (held_open rM5 c (got5 (out5 O) c)) $$ N5
  set_option sl_exec.maxSteps 3 in sl_exec
  rw [slot_read5]
  ihave H5 : iprop(oM.view.loc (c : Thread nD τ) ↦{fullShare} (out6 O) c) $$ [H5]
  · iexact H5
  sl_exec
  rw [wp_ret]
  imodintro
  iapply Hk $$ H4 H5 [S0 S1 S2 S3 S4 S5] [N0 N1 N2 N3 N4 N5] [P0 P1 P2 P3 P4 P5] [R0 R1 R2 R3 R4 R5] HO
  · unfold heldAny
    isplitl [S0]; · iexact S0
    isplitl [S1]; · iexact S1
    isplitl [S2]; · iexact S2
    isplitl [S3]; · iexact S3
    isplitl [S4]; · iexact S4
    iexact S5
  · isplitl [N0]; · iexists _; iexact N0
    isplitl [N1]; · iexists _; iexact N1
    isplitl [N2]; · iexists _; iexact N2
    isplitl [N3]; · iexists _; iexact N3
    isplitl [N4]; · iexists _; iexact N4
    iexists _; iexact N5
  · isplitl [P0]; · iexact P0
    isplitl [P1]; · iexact P1
    isplitl [P2]; · iexact P2
    isplitl [P3]; · iexact P3
    isplitl [P4]; · iexact P4
    iexact P5
  · isplitl [R0]; · iexact R0
    isplitl [R1]; · iexact R1
    isplitl [R2]; · iexact R2
    isplitl [R3]; · iexact R3
    isplitl [R4]; · iexact R4
    iexact R5

end Cert.Xchg

end
-- ==== Proof.Body.lean ====
/-
  The launch's one body on a device, from its staged blocks to the sum of the devices' products in the result's block.
-/
module

public import proofs.«01_k».proof.Proof.Cells
public import proofs.«01_k».proof.Proof.Slots
public import proofs.«01_k».proof.Proof.Exch

@[expose] public section

set_option maxRecDepth 16384

noncomputable section

namespace Cert.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ

variable (m : (ℓ : Loc nD τ sig) → Buf (Elt F) ℓ)

/-! ## The contents -/

/-- The staged blocks of a device: the rows, its part of the query weights, its part of the output weights. -/
def xAt (c : Dev nD) : (cc0_stg0_0 : Ref sig .tc).ty.Contents (Elt F) :=
  (win0_0.blk (0 : Fin 1)).view.read (Elt F) (m ((c : Thread nD τ).loc main_arg0))
def wqAt (c : Dev nD) : (cc0_stg1_0 : Ref sig .tc).ty.Contents (Elt F) :=
  (win0_1.blk (0 : Fin 1)).view.read (Elt F) (m ((c : Thread nD τ).loc main_arg1))
def woAt (c : Dev nD) : (cc0_stg2_0 : Ref sig .tc).ty.Contents (Elt F) :=
  (win0_2.blk (0 : Fin 1)).view.read (Elt F) (m ((c : Thread nD τ).loc main_arg4))

/-- The device's context, and its product with the device's part of the output weights. -/
def ctxAt (c : Dev nD) : Vec F S1024x1024 .bf16 :=
  (attnRun c (xAt m c) (wqAt m c) (kvAt c (m ((c : Thread nD τ).loc main_arg2)) (m ((c : Thread nD τ).loc main_arg3)))).1
def part (c : Dev nD) : OutB F :=
  k0_pay45 (ctxAt m c) (View.readAt (Elt F) woM.view (Rect.unit ![0, 0] S1024x1024.size inb_S1024x1024_S1024x1024_0_0).toLoadRect (woAt m c))

/-- The product's store fills the result's block. -/
theorem store_whole (c : Dev nD) (f5 : Buf (Elt F) (oM.view.loc (c : Thread nD τ))) (v : Vec F S1x1024x1024 .f32) :
    oM.view.writes (Elt F) f5 [⟨Rect.unit ![0, 0, 0] S1x1024x1024.size inb_S1x1024x1024_S1x1024x1024_0_0_0, v⟩] = v :=
  Memref.write_access_unit_zero_univ (Elt F) cc0_stg3_0 (off := ![0, 0, 0]) (funext fun a => by fin_cases a <;> rfl) inb_S1x1024x1024_S1x1024x1024_0_0_0 f5 v

/-! ## Before and after -/

/-- Before the body: the cells' invariants, what the device holds of the exchange, its keys and values, and its buffers. -/
def Φ₀ (c : Dev nD) : sProp 𝕄 :=
  iprop((∃ K, invAll (msgs (part m)) K) ∗ levAts L lv ∗ poss c ∗ payToks c ∗ creds c
    ∗ (kM.view.loc (c : Thread nD τ) ↦{fullShare} m ((c : Thread nD τ).loc main_arg2)) ∗ (vM.view.loc (c : Thread nD τ) ↦{fullShare} m ((c : Thread nD τ).loc main_arg3))
    ∗ semVal ((c : Thread nD τ), .dma kS) 0 ∗ semVal ((c : Thread nD τ), .dma vS) 0
    ∗ (∃ f : Buf (Elt F) (cM.view.loc (c : Thread nD τ)), cM.view.loc (c : Thread nD τ) ↦{fullShare} f)
    ∗ (∃ f : Buf (Elt F) (kvM.view.loc (c : Thread nD τ)), kvM.view.loc (c : Thread nD τ) ↦{fullShare} f)
    ∗ (∃ f : Buf (Elt F) (sndM.view.loc (c : Thread nD τ)), sndM.view.loc (c : Thread nD τ) ↦{fullShare} f)
    ∗ (∃ f : Buf (Elt F) (rcvM.view.loc (c : Thread nD τ)), rcvM.view.loc (c : Thread nD τ) ↦{fullShare} f))

/-- After it: its keys and values, every counter at zero, and its buffers. -/
def Φ₁ (c : Dev nD) : sProp 𝕄 :=
  iprop((kM.view.loc (c : Thread nD τ) ↦{fullShare} m ((c : Thread nD τ).loc main_arg2)) ∗ (vM.view.loc (c : Thread nD τ) ↦{fullShare} m ((c : Thread nD τ).loc main_arg3))
    ∗ semVal ((c : Thread nD τ), .dma kS) 0 ∗ semVal ((c : Thread nD τ), .dma vS) 0 ∗ (bigSep Finset.univ fun k : CI => semVal (kcell (c, k)) 0)
    ∗ (∃ f : Buf (Elt F) (cM.view.loc (c : Thread nD τ)), cM.view.loc (c : Thread nD τ) ↦{fullShare} f)
    ∗ (∃ f : Buf (Elt F) (kvM.view.loc (c : Thread nD τ)), kvM.view.loc (c : Thread nD τ) ↦{fullShare} f)
    ∗ (∃ f : Buf (Elt F) (sndM.view.loc (c : Thread nD τ)), sndM.view.loc (c : Thread nD τ) ↦{fullShare} f)
    ∗ (∃ f : Buf (Elt F) (rcvM.view.loc (c : Thread nD τ)), rcvM.view.loc (c : Thread nD τ) ↦{fullShare} f))

/-- A device's own receive slots, grouped as the barriers hand them over. -/
theorem slots_give (c : Dev nD) :
    iprop(heldAny (F := F) rM0 c ∗ heldAny (F := F) rM1 c ∗ heldAny (F := F) rM2 c ∗ heldAny (F := F) rM3 c ∗ heldAny (F := F) rM4 c ∗ heldAny (F := F) rM5 c)
      ⊢ iprop(barPay (F := F) (par 0 c) 0 ∗ barPay (F := F) (par 1 c) 1 ∗ barPay (F := F) (par 2 c) 2) := by
  unfold barPay
  simp only [par_par]
  iintro ⟨R0, R1, R2, R3, R4, R5⟩
  isplitl [R2 R3]
  · isplitl [R2]; · iexact R2
    iexact R3
  isplitl [R1 R4]
  · isplitl [R1]; · iexact R1
    iexact R4
  isplitl [R0]; · iexact R0
  iexact R5

/-- The partners' receive slots, in the order of the steps. -/
theorem slots_take (c : Dev nD) :
    iprop(barPay (F := F) c 0 ∗ barPay (F := F) c 1 ∗ barPay (F := F) c 2)
      ⊢ iprop(heldAny (F := F) rM0 (par 2 c) ∗ heldAny (F := F) rM1 (par 1 c) ∗ heldAny (F := F) rM2 (par 0 c) ∗ heldAny (F := F) rM3 (par 0 c) ∗ heldAny (F := F) rM4 (par 1 c) ∗ heldAny (F := F) rM5 (par 2 c)) := by
  unfold barPay
  iintro ⟨⟨R2, R3⟩, ⟨R1, R4⟩, R0, R5⟩
  isplitl [R0]; · iexact R0
  isplitl [R1]; · iexact R1
  isplitl [R2]; · iexact R2
  isplitl [R3]; · iexact R3
  isplitl [R4]; · iexact R4
  iexact R5

set_option maxHeartbeats 1000000 in
/-- The body on a device: its blocks of the inputs unchanged, the result's block at the sum the exchange leaves. -/
theorem run_body (c : Dev nD) (W : Waits sig Unit) (f5 : Buf (Elt F) (oM.view.loc (c : Thread nD τ))) (Q : PUnit → sProp 𝕄) :
    iprop(Φ₀ m c ∗ owes (c : Thread nD τ) (O₀ c) W
      ∗ (xM.view.loc (c : Thread nD τ) ↦{fullShare} xAt m c) ∗ (wqM.view.loc (c : Thread nD τ) ↦{fullShare} wqAt m c)
      ∗ (woM.view.loc (c : Thread nD τ) ↦{fullShare} woAt m c) ∗ (oM.view.loc (c : Thread nD τ) ↦{fullShare} f5)
      ∗ (∀ W' : Waits sig Unit, Φ₁ m c -∗ owes (c : Thread nD τ) 0 W'
          -∗ (xM.view.loc (c : Thread nD τ) ↦{fullShare} xAt m c) -∗ (wqM.view.loc (c : Thread nD τ) ↦{fullShare} wqAt m c)
          -∗ (woM.view.loc (c : Thread nD τ) ↦{fullShare} woAt m c) -∗ (oM.view.loc (c : Thread nD τ) ↦{fullShare} out6 (part m) c) -∗ Q ⟨⟩))
      ⊢ wp frame (wpE (defs₀ (F := F)) 𝒱₀ (c : Thread nD τ) none) Set.univ (args (cc0_body (F := F))) Q := by
  rw [cc0_body_eq_skeleton, body_split]
  unfold Φ₀ poss payToks creds
  iintro ⟨⟨⟨%K, #I⟩, #Hlev, ⟨Pb, Ps, Pr⟩, ⟨⟨T0, T1, T2⟩, Ts, Tr⟩, ⟨Cb, Cr⟩, Hk, Hv, S4, S5, ⟨%f6, H6⟩, ⟨%f7, H7⟩, ⟨%f8, H8⟩, ⟨%f9, H9⟩⟩, HO, H0, H1, H4, H5, Hc⟩
  ihave #J0 := inv_at (msgs (part m)) K (c, .inl ()) $$ I
  ihave #J1 := inv_at (msgs (part m)) K (par 0 c, .inl ()) $$ I
  ihave #J2 := inv_at (msgs (part m)) K (par 1 c, .inl ()) $$ I
  ihave #J3 := inv_at (msgs (part m)) K (par 2 c, .inl ()) $$ I
  icases J0 with ⟨#J0, -⟩
  icases J1 with ⟨#J1, #L1⟩
  icases J2 with ⟨#J2, #L2⟩
  icases J3 with ⟨#J3, #L3⟩
  ihave Hs := snd_split c f8 $$ H8
  ihave Hr := rcv_split c f9 $$ H9
  ihave Hr := slots_give c $$ Hr
  icases Hr with ⟨G0, G1, G2⟩
  iapply ((attnRun c (xAt m c) (wqAt m c) (kvAt c (m ((c : Thread nD τ).loc main_arg2)) (m ((c : Thread nD τ).loc main_arg3)))).2
    (msgs (part m)) (K (c, .inl ())) (K (par 0 c, .inl ())) (K (par 1 c, .inl ())) (K (par 2 c, .inl ())) _ _ f6 f7 rfl W Q xchgProg)
  isplitl []; · iexact Hlev
  isplitl []; · iexact J0
  isplitl []; · iexact J1
  isplitl []; · iexact J2
  isplitl []; · iexact J3
  isplitl []; · iexact L1
  isplitl []; · iexact L2
  isplitl []; · iexact L3
  isplitl [H0]; · iexact H0
  isplitl [H1]; · iexact H1
  isplitl [Hk]; · iexact Hk
  isplitl [Hv]; · iexact Hv
  isplitl [H6]; · iexact H6
  isplitl [H7]; · iexact H7
  isplitl [S4]; · iexact S4
  isplitl [S5]; · iexact S5
  isplitl [T0]; · iexact T0
  isplitl [T1]; · iexact T1
  isplitl [T2]; · iexact T2
  isplitl [G0]; · iexact G0
  isplitl [G1]; · iexact G1
  isplitl [G2]; · iexact G2
  isplitl [Pb]; · iexact Pb
  isplitl [Cb]; · iexact Cb
  isplitl [HO]; · iexact HO
  iintro %v5 %W' %g6 H0 H1 Hk Hv H6 H7 S4 S5 Pb Hn HO
  ihave Hn := slots_take c $$ Hn
  iapply (wp_fupd frame (wpE (defs₀ (F := F)) 𝒱₀ (c : Thread nD τ) none) Set.univ (xchgProg c v5 (ctxAt m c)) Q)
  iapply (xchgRun (part m) K c v5 (ctxAt m c) (woAt m c) f5 (store_whole c f5 _) W' fun a => iprop(|={Set.univ}=> Q a))
  isplitl []; · iexact Hlev
  isplitl []; · iexact I
  isplitl [H4]; · iexact H4
  isplitl [H5]; · iexact H5
  isplitl [Hs]; · iexact Hs
  isplitl [Hn]; · iexact Hn
  isplitl [Ts]; · iexact Ts
  isplitl [Tr]; · iexact Tr
  isplitl [Ps]; · iexact Ps
  isplitl [Pr]; · iexact Pr
  isplitl [Cr]; · iexact Cr
  isplitl [HO]; · iexact HO
  iintro %W'' H4 H5 Hs Hr Ps Pr HO
  imod (close_cells (msgs (part m)) K c) $$ [Pb Ps Pr] with Hz
  · isplitl []; · iexact I
    isplitl [Pb]; · iexact Pb
    isplitl [Ps]; · iexact Ps
    iexact Pr
  imodintro
  ihave H8 := snd_join c $$ Hs
  ihave H9 := rcv_join c $$ Hr
  iapply Hc $$ [Hk Hv S4 S5 Hz H6 H7 H8 H9] [HO] H0 H1 H4 H5
  · unfold Φ₁
    isplitl [Hk]; · iexact Hk
    isplitl [Hv]; · iexact Hv
    isplitl [S4]; · iexact S4
    isplitl [S5]; · iexact S5
    isplitl [Hz]; · iexact Hz
    isplitl [H6]; · iexists g6; iexact H6
    isplitl [H7]; · iexists _; iexact H7
    isplitl [H8]; · iexact H8
    iexact H9
  · iexact HO

end Cert.Xchg

end
-- ==== Proof.Run.lean ====
/-
  The launch run: every weakly fair execution ends with each device's result at the sum the exchange leaves, the
  arguments unchanged and every counter at zero.
-/
module

public import proofs.«01_k».proof.Proof.Start
public import proofs.«01_k».proof.Proof.Body
public import Idealize.ShloMosaic.Lib.Pipeline.CollectiveSegs

@[expose] public section

set_option maxRecDepth 16384

noncomputable section

namespace Cert.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ

variable (m : (ℓ : Loc nD τ sig) → Buf (Elt F) ℓ) (ρ : Dev nD → PrngReg)

/-- The launch's proof data: the inputs' blocks stay, the result's block becomes the exchange's sum. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wqAt m c
    | ⟨2, _⟩ => woAt m c
    | ⟨3, _⟩ => out6 (part m) c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem star_wins (Φ : Fin cfg0.W → sProp 𝕄) : bigSep Finset.univ Φ = iprop(Φ (0 : Fin 4) ∗ Φ (1 : Fin 4) ∗ Φ (2 : Fin 4) ∗ Φ (3 : Fin 4)) := bigSep_W0 Φ
theorem point (t : Fin cfg0.N) : t = t0_0 := fin_N0 t
theorem fetch0 (t : Fin cfg0.N) : (cfg0.win (0 : Fin 4)).fetch t = true := by rw [point t]; rfl
theorem fetch1 (t : Fin cfg0.N) : (cfg0.win (1 : Fin 4)).fetch t = true := by rw [point t]; rfl
theorem fetch2 (t : Fin cfg0.N) : (cfg0.win (2 : Fin 4)).fetch t = true := by rw [point t]; rfl

theorem owned_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp 𝕄 :=
  iprop(Φ₁ m c ∗ (dats m 0 c).owesAt () t0_0.succ ∗ stg c cc0_stg0_0 (xAt m c) ∗ stg c cc0_stg1_0 (wqAt m c) ∗ stg c cc0_stg2_0 (woAt m c)
    ∗ stg c cc0_stg3_0 (out6 (part m) c))

/-- The body from its staged blocks to its results. -/
theorem sound_body (c : Dev nD) :
    bodyPre m c ⊢ wp frame (wpE (defs₀ (F := F)) 𝒱₀ (c : Thread nD τ) none) Set.univ (args (cc0_body (F := F))) fun _ => bodyPost m c := by
  unfold bodyPre bodyPost
  iintro ⟨HΦ, Ho, ⟨%d0, %g0, %h0, H0⟩, ⟨%d1, %g1, %h1, H1⟩, ⟨%d2, %g2, %h2, H2⟩, ⟨%d3, %g3, %h3, H3⟩⟩
  have e0 : g0 = xAt m c := by rw [h0]; unfold Dat.before; rw [if_pos (fetch0 t0_0)]; rfl
  have e1 : g1 = wqAt m c := by rw [h1]; unfold Dat.before; rw [if_pos (fetch1 t0_0)]; rfl
  have e2 : g2 = woAt m c := by rw [h2]; unfold Dat.before; rw [if_pos (fetch2 t0_0)]; rfl
  subst e0 e1 e2
  unfold Dat.owesAt Pipeline.owesWithin
  icases Ho with ⟨%W, %hW, HO⟩
  rw [show (dats m 0 c).owed t0_0.castSucc = O₀ c from rfl, show (dats m 0 c).owed t0_0.succ = 0 from rfl]
  iapply (run_body m c W g3)
  isplitl [HΦ]; · iexact HΦ
  isplitl [HO]; · iexact HO
  isplitl [H0]; · iexact H0
  isplitl [H1]; · iexact H1
  isplitl [H2]; · iexact H2
  isplitl [H3]; · iexact H3
  iintro %W' HΦ HO H0 H1 H2 H3
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem after0 (c : Dev nD) (t : Fin cfg0.N) : (dats m 0 c).after (0 : Fin 4) t = xAt m c := by dsimp only [dats]
theorem after1 (c : Dev nD) (t : Fin cfg0.N) : (dats m 0 c).after (1 : Fin 4) t = wqAt m c := by dsimp only [dats]
theorem after2 (c : Dev nD) (t : Fin cfg0.N) : (dats m 0 c).after (2 : Fin 4) t = woAt m c := by dsimp only [dats]
theorem after3 (c : Dev nD) (t : Fin cfg0.N) : (dats m 0 c).after (3 : Fin 4) t = out6 (part m) c := by dsimp only [dats]

theorem body_obligation (c : Dev nD) : BodyObligation (dats (F := F) m 0 c) (defs₀ (F := F)) 𝒱₀ () Set.univ := fun t => by
  rw [point t]
  rw [star_wins, star_wins]
  simp only [owned_whole]
  rw [after0, after1, after2, after3]
  exact sound_body m c

/-! ## The launch -/

theorem share_eq (c : Dev nD) (w : Fin cfg0.W) : (dats m 0 c).share w = fullShare := by unfold Dat.share; split <;> rfl

def u₀ : UU := (initOf (Pipeline.cells cfgs cellOf_inj) (Pipeline.launchToks cfgs cellOf_inj), (initOf xCells xToks, 1))

theorem launch_emb (b : UB) : (BI.own (((Emb.inl : Emb UB (UB × Counters)).trans (embR : Emb (UB × Counters) 𝕄)) b) : sProp 𝕄) ⊢ BI.own (ER b) :=
  Entails.of_eq rfl

/-- What the body is given besides its buffers. -/
def start (c : Dev nD) : sProp 𝕄 :=
  iprop(G' (msgs (part m)) c ∗ levAts L lv ∗ creds c
    ∗ (kM.view.loc (c : Thread nD τ) ↦{fullShare} m ((c : Thread nD τ).loc main_arg2)) ∗ (vM.view.loc (c : Thread nD τ) ↦{fullShare} m ((c : Thread nD τ).loc main_arg3)))

/-- What it leaves besides its buffers and its own semaphores. -/
def left (c : Dev nD) : sProp 𝕄 :=
  iprop(unscopedSems0 c
    ∗ (kM.view.loc (c : Thread nD τ) ↦{fullShare} m ((c : Thread nD τ).loc main_arg2)) ∗ (vM.view.loc (c : Thread nD τ) ↦{fullShare} m ((c : Thread nD τ).loc main_arg3)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (msgs (part m)) c)
      ⊢ |={Set.univ}=> iprop(start m c ∗ emp) := by
  rw [Pipeline.unscopedRestP_none, unscopedRest0_eq]
  unfold start
  iintro ⟨⟨Hk, Hv⟩, Hlev, Hcr, -, HG⟩
  ihave Hc := (creds_intro (F := F) c) $$ Hcr
  imodintro
  isplitl
  · isplitl [HG]; · iexact HG
    isplitl [Hlev]; · iexact Hlev
    isplitl [Hc]; · iexact Hc
    isplitl [Hk]; · iexact Hk
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold start G' Φ₀
  iintro ⟨⟨⟨HI, Hp, Ht, K, V⟩, Hlev, Hc, Hk, Hv⟩, -, H6, H7, H8, H9⟩
  isplitl [HI]; · iexact HI
  isplitl [Hlev]; · iexact Hlev
  isplitl [Hp]; · iexact Hp
  isplitl [Ht]; · iexact Ht
  isplitl [Hc]; · iexact Hc
  isplitl [Hk]; · iexact Hk
  isplitl [Hv]; · iexact Hv
  isplitl [K]; · iexact K
  isplitl [V]; · iexact V
  isplitl [H6]; · iexact H6
  isplitl [H7]; · iexact H7
  isplitl [H8]; · iexact H8
  iexact H9

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ left
  iintro ⟨Hk, Hv, K, V, Hz, H6, H7, H8, H9⟩
  ihave Hs := (sems_eq (F := F) c).2 $$ [Hz K V]
  · isplitl [Hz]; · iexact Hz
    isplitl [K] <;> iassumption
  icases Hs with ⟨Hos, Hus⟩
  isplitl [Hus Hk Hv]
  · isplitl [Hus]; · iexact Hus
    isplitl [Hk]; · iexact Hk
    iexact Hv
  isplitl [Hos]; · iexact Hos
  isplitl [H6]; · iexact H6
  isplitl [H7]; · iexact H7
  isplitl [H8]; · iexact H8
  iexact H9

theorem waits (c : Dev nD) : (levAts L lv : sProp 𝕄) ⊢ Pipeline.cellsWaits cfgs (dats m) () 0 c :=
  Pipeline.cellsWaits_intro cfgs (dats m) () 0 c fun w s t =>
    mayWait_O₀ c _ (by fin_cases w <;> fin_cases s <;> decide) _ (by
      rcases t with ⟨_ | _, ht⟩
      · exact Or.inl rfl
      · exact Or.inr rfl)

/-- What a device's memory holds at the end besides the launch's arrays. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2)
    ∧ s.mem ((c : Thread nD τ).loc main_arg3) = m ((c : Thread nD τ).loc main_arg3)

theorem left_read (c : Dev nD) (s' : Phys nD τ sig (Elt F)) :
    iprop(left m c ∗ emp ∗ SI s') ⊢ (|={Set.univ}=> iprop(⌜Ends m c s'.mem⌝ ∗ SI s') : sProp 𝕄) := by
  unfold left
  iintro ⟨⟨Hu, Hk, Hv⟩, -, HSI⟩
  icombine HSI Hk gives %hk
  icombine HSI Hv gives %hv
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ hk, Buf.eq_of_forall_mem_univ hv⟩
  iexact HSI

/-- Every weakly fair execution ends with the launch's arrays at what its windows leave, the keys and the values
    unchanged, and every counter at zero. -/
theorem run_main : θ_run defs (onTc (τ := τ) (main (F := F))) ⟨m, fun _ => 0, ρ⟩ fun r =>
    (∀ c : Dev nD, (∀ w : Fin cfg0.W, r.2.mem ((cfg0.win w).arr.view.loc (c : Thread nD τ)) = (dats m 0 c).arrAt w cfg0.N) ∧ Ends m c r.2)
      ∧ r.2.sem = fun _ => 0 :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (msgs (part m))) (G' := G' (msgs (part m))) (u₀ := u₀)
    (hu₀ := by
      unfold u₀
      iintro Hu
      ihave H := (ownU_pair _ _) $$ Hu
      icases H with ⟨HP, HX⟩
      ihave H := (own_pair_emb _ _ _) $$ HX
      icases H with ⟨HX, -⟩
      ihave HX := (launch_emb (F := F) (initOf xCells xToks)) $$ HX
      imod (fund_cells (msgs (part m))) $$ HX with HG
      imodintro
      isplitl [HP] <;> iassumption)
    (hglob := glob (msgs (part m)))
    (hA := fun _ _ => rfl) (hpf := fun _ k => k.elim0)
    (X := start m) (Y := left m) (Z := fun _ => iprop(emp))
    (hX := start_intro m ρ) (hin := phi0_intro m) (hout := phi1_exit m)
    (QY := Ends m) (hY := left_read m)
    (hQ := fun _ h hs => ⟨fun c => ⟨(h c).1, (h c).2.2⟩, sem_eq_zero hs fun c => (h c).2.2.1⟩)

end Cert.Xchg

end
-- ==== Proof.Frames.lean ====
/-
  The kernel's frames: at any float values, and so at the machine's and at the ideal ones, every weakly fair execution
  ends with the arguments unchanged and every counter at zero.
-/
module

public import proofs.«01_k».proof.Defs
public import proofs.«01_k».proof.Proof.Run
public import proofs.«01_k».proof.Proof.Gen.Kernel

@[expose] public section

set_option maxRecDepth 16384

noncomputable section

namespace Cert.Xchg

open Cert.KernelIdeal Cert.KernelIdeal.Gen

open Idealize.ShloMosaic
open Idealize.ShloMosaic.TcCoe
open Idealize.SL.Sem

variable {F : FTy → Type} [FloatOps F]

/-- Every weakly fair execution ends with the result array as the one block leaves it, the arguments unchanged and every
    counter at zero. -/
theorem ends_any (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v1) = (dats m 0 c).arrAt (3 : Fin 4) cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun _ h => ⟨fun c => ⟨(h.1 c).1 (3 : Fin 4), ((h.1 c).1 (0 : Fin 4)).trans ((dats m 0 c).arrAt_in (0 : Fin 4) rfl _),
    ((h.1 c).1 (1 : Fin 4)).trans ((dats m 0 c).arrAt_in (1 : Fin 4) rfl _), (h.1 c).2.2.1, (h.1 c).2.2.2,
    ((h.1 c).1 (2 : Fin 4)).trans ((dats m 0 c).arrAt_in (2 : Fin 4) rfl _)⟩, h.2⟩) (run_main m ρ)

/-- Every weakly fair execution ends with the arguments unchanged and every counter at zero. -/
theorem frame_any (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun _ h => ⟨fun c => (h.1 c).2, h.2⟩) (ends_any m ρ)

/-- The two programs are the same text, so their body is one. -/
theorem body_same : @Cert.Kernel.cc0_body F _ Cert.Kernel.Gen.facts = @Cert.KernelIdeal.cc0_body F _ Cert.KernelIdeal.Gen.facts := rfl

/-- Their tables of kernels are one. -/
theorem kernels_same : @Cert.Kernel.defs₀ F _ Cert.Kernel.Gen.facts = @Cert.KernelIdeal.defs₀ F _ Cert.KernelIdeal.Gen.facts := by
  funext p ℓ a
  match p with
  | .tc =>
    match ℓ, a with
    | ⟨0, _⟩, (t, s) => exact rfl
    | ⟨_ + 1, h⟩, _ => exact absurd h (Nat.not_lt.2 (Nat.le_add_left _ _))
  | .scScalar _ => rfl
  | .scVector _ _ => rfl

/-- Their tables with the launches in are one. -/
theorem table_same : @Cert.Kernel.defs F _ Cert.Kernel.Gen.facts = @Cert.KernelIdeal.defs F _ Cert.KernelIdeal.Gen.facts := by
  unfold Cert.Kernel.defs Cert.KernelIdeal.defs
  rw [kernels_same]
  rfl

/-- The ideal kernel leaves its arguments alone. -/
theorem frame_ideal : @Cert.quiescent_KernelIdeal Cert.KernelIdeal.Gen.facts := fun m ρ _ => frame_any m ρ

/-- The kernel as compiled is the same program, at the machine's floats. -/
theorem frame_kernel : @Cert.quiescent_Kernel Cert.Kernel.Gen.facts := fun m ρ _ => by
  rw [table_same (F := Bits)]
  exact frame_any (F := Bits) m ρ

end Cert.Xchg

end
-- ==== Proof.Soft.lean ====
/-
  The two ways to normalise the masked exponentials agree: less the greatest score and divided by the sum, or times the
  reciprocal of the sum.
-/
module

public import Idealize.ShloMosaic.Lib.Pointwise

@[expose] public section

noncomputable section

namespace Cert.Soft

open Idealize.ShloMosaic

/-- Neither of the infinities. -/
def Fin' (x : EReal) : Prop := ∃ r : ℝ, x = (r : EReal)

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Fin'.sum {ι : Type} (s : Finset ι) (f : ι → EReal) (h : ∀ i, Fin' (f i)) : Fin' (∑ i ∈ s, f i) := by
  choose g hg using h
  exact ⟨∑ i ∈ s, g i, by rw [← coe_sum]; exact Finset.sum_congr rfl fun i _ => hg i⟩

/-- A finite nonnegative factor comes out of a sum. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- A finite factor comes out of a sum of finite terms. -/
theorem sum_mul_fin {ι : Type} (s : Finset ι) (f : ι → EReal) (h : ∀ i, Fin' (f i)) (x : EReal) (hx : Fin' x) : (∑ i ∈ s, f i) * x = ∑ i ∈ s, f i * x := by
  choose g hg using h
  obtain ⟨r, rfl⟩ := hx
  simp only [hg]
  rw [coe_sum, ← EReal.coe_mul, Finset.sum_mul, ← coe_sum]
  exact Finset.sum_congr rfl fun i _ => EReal.coe_mul _ _

variable {n : ℕ} (P : Fin n → Prop) [DecidablePred P] (σ : Fin n → ℝ)

/-- The greatest of masked finite scores, one of which is kept, is finite. -/
theorem max_fin (j₀ : Fin n) (h₀ : P j₀) : Fin' (Finset.fold max (⊥ : EReal) (fun j => if P j then (σ j : EReal) else ⊥) Finset.univ) := by
  set M := Finset.fold max (⊥ : EReal) (fun j => if P j then (σ j : EReal) else ⊥) Finset.univ with hM
  have h1 : M < ⊤ := by
    rw [hM, Finset.fold_max_lt]
    refine ⟨bot_lt_top, fun j _ => ?_⟩
    split
    · exact EReal.coe_lt_top _
    · exact bot_lt_top
  have h2 : ⊥ < M := by
    rw [hM, Finset.lt_fold_max]
    exact .inr ⟨j₀, Finset.mem_univ _, by rw [if_pos h₀]; exact EReal.bot_lt_coe _⟩
  exact ⟨M.toReal, (EReal.coe_toReal h1.ne h2.ne').symm⟩

/-- The sum of the masked exponentials. -/
def tot : ℝ := ∑ j, if P j then Real.exp (σ j) else 0

theorem tot_pos (j₀ : Fin n) (h₀ : P j₀) : 0 < tot P σ := by
  refine Finset.sum_pos' (fun j _ => ?_) ⟨j₀, Finset.mem_univ _, by rw [if_pos h₀]; exact Real.exp_pos _⟩
  split
  · exact (Real.exp_pos _).le
  · exact le_rfl

theorem sum_exp : ∑ j, (if P j then Ideal.exp (σ j : EReal) else 0) = (tot P σ : EReal) := by
  unfold tot
  rw [← coe_sum]
  refine Finset.sum_congr rfl fun j _ => ?_
  split <;> simp

/-- The reciprocal of the sum. -/
theorem recip (j₀ : Fin n) (h₀ : P j₀) : Ideal.div 1 (∑ j, (if P j then Ideal.exp (σ j : EReal) else 0)) = ((1 / tot P σ : ℝ) : EReal) := by
  rw [sum_exp, Ideal.div_coe (tot_pos P σ j₀ h₀).ne', one_mul]

/-- The normalised weight, less the greatest score, is the exponential times the reciprocal. -/
theorem weight (j₀ : Fin n) (h₀ : P j₀) (j : Fin n) (M : EReal)
    (hM : M = Finset.fold max (⊥ : EReal) (fun j => if P j then (σ j : EReal) else ⊥) Finset.univ) :
    Ideal.div (Ideal.exp ((if P j then (σ j : EReal) else ⊥) - M)) (∑ l, Ideal.exp ((if P l then (σ l : EReal) else ⊥) - M))
      = (if P j then Ideal.exp (σ j : EReal) else 0) * ((1 / tot P σ : ℝ) : EReal) := by
  obtain ⟨μ, hμ⟩ := max_fin P σ j₀ h₀
  rw [← hM] at hμ
  subst hμ
  have he : ∀ l, Ideal.exp ((if P l then (σ l : EReal) else ⊥) - (μ : EReal)) = (((if P l then Real.exp (σ l) else 0) * Real.exp (-μ) : ℝ) : EReal) := by
    intro l
    split
    · rw [← EReal.coe_sub, Ideal.exp_coe, sub_eq_add_neg, Real.exp_add]
    · rw [EReal.bot_sub, Ideal.exp_bot, zero_mul, EReal.coe_zero]
  simp only [he]
  rw [coe_sum, ← Finset.sum_mul]
  change Ideal.div _ ((tot P σ * Real.exp (-μ) : ℝ) : EReal) = _
  have hp := (tot_pos P σ j₀ h₀).ne'
  have hm := (Real.exp_pos (-μ)).ne'
  rw [Ideal.div_coe (mul_ne_zero hp hm), ← EReal.coe_mul]
  have e2 : (if P j then Ideal.exp (σ j : EReal) else 0) = ((if P j then Real.exp (σ j) else 0 : ℝ) : EReal) := by split <;> simp
  rw [e2, ← EReal.coe_mul]
  congr 1
  field_simp

/-- A head's result: the weighted sum times the reciprocal is the sum over the normalised weights. -/
theorem head (s : Fin n → EReal) (hs : ∀ j, P j → Fin' (s j)) (v : Fin n → EReal) (j₀ : Fin n) (h₀ : P j₀) (M : EReal)
    (hM : M = Finset.fold max (⊥ : EReal) (fun j => if P j then s j else ⊥) Finset.univ) :
    (∑ j, (if P j then Ideal.exp (s j) else 0) * v j) * Ideal.div 1 (∑ j, (if P j then Ideal.exp (s j) else 0))
      = ∑ j, v j * Ideal.div (Ideal.exp ((if P j then s j else ⊥) - M)) (∑ l, Ideal.exp ((if P l then s l else ⊥) - M)) := by
  obtain ⟨σ, hσ⟩ : ∃ σ : Fin n → ℝ, ∀ j, P j → s j = (σ j : EReal) := by
    refine ⟨fun j => (s j).toReal, fun j hj => ?_⟩
    obtain ⟨r, hr⟩ := hs j hj
    show s j = ((s j).toReal : EReal)
    rw [hr, EReal.toReal_coe]
  have e1 : ∀ j, (if P j then Ideal.exp (s j) else 0) = if P j then Ideal.exp (σ j : EReal) else 0 := fun j => by
    split
    · rename_i h; rw [hσ j h]
    · rfl
  have e2 : ∀ j, (if P j then s j else ⊥) = if P j then (σ j : EReal) else ⊥ := fun j => by
    split
    · rename_i h; rw [hσ j h]
    · rfl
  simp only [e2] at hM ⊢
  simp only [e1]
  rw [recip P σ j₀ h₀, sum_mul_coe _ _ _ (one_div_nonneg.mpr (tot_pos P σ j₀ h₀).le)]
  refine Finset.sum_congr rfl fun j _ => ?_
  rw [weight P σ j₀ h₀ j M hM, mul_comm _ (v j), mul_assoc]

end Cert.Soft
-- ==== Proof.Head.lean ====
/-
  One head of the attention, for the upper and for the lower half of the rows: what the kernel computes of it, and
  its value at an index over the extended reals.
-/
module

public import proofs.«01_k».proof.Proof.Attn
public import Idealize.ShloMosaic.Lib.Pointwise

@[expose] public section

set_option maxRecDepth 16384

noncomputable section

namespace Cert.Xchg

open Cert.KernelIdeal Cert.KernelIdeal.Gen

open Idealize.ShloMosaic

variable {F : FTy → Type} [FloatOps F]

/-- The masked exponentials of the scores of the rows 0 to 511 against the keys 0 to 511. -/
def expLo (col : ℕ) (hs : Shape.Slices S1024x1024 ![0, col] S512x128) (q : FVec F S1024x1024 .bf16) (mask : IVec S512x512 1)
    (k : Vec F S1x512x1x128 .f32) : FVec F S512x512 .f32 :=
  select mask (exp (matmul dot_S512x128_S512x128_S512x512_1_1_0_0_n_n none (extractStridedSlice S512x128 ![0, col] q hs)
    (truncf .bf16 (shapeCast S512x128 k shapeCasts_S1x512x1x128_S512x128) bitsLt_bf16_f32) (constant S512x512 .f32 0x00000000#32)))
    (broadcast S512x512 (Scalar.ofBits .f32 0x00000000#32))

/-- A head's result for the rows 0 to 511. -/
def headLo (e : FVec F S512x512 .f32) (v : Vec F S1x512x1x128 .f32) : FVec F S512x128 .bf16 :=
  shapeCast S512x128 (truncf .bf16 (mulf
    (matmul dot_S512x512_S512x128_S512x128_1_0_0_1_n_n none (truncf .bf16 e bitsLt_bf16_f32)
      (truncf .bf16 (shapeCast S512x128 v shapeCasts_S1x512x1x128_S512x128) bitsLt_bf16_f32) (constant S512x128 .f32 0x00000000#32))
    (broadcastTo S512x128 (divf (broadcast S512x1 (Scalar.ofBits .f32 0x3F800000#32))
      (shapeCast S512x1 (multiReduction .add [1] S512 e 0x00000000#32 reduces_S512x512_S512 (.inl rfl) rfl) shapeCasts_S512_S512x1))
      broadcasts_S512x1_S512x128)) bitsLt_bf16_f32) shapeCasts_S512x128_S512x128

/-- The masked exponentials of the scores of the rows 512 to 1023 against all keys. -/
def expHi (col : ℕ) (hs : Shape.Slices S1024x1024 ![512, col] S512x128) (q : FVec F S1024x1024 .bf16) (mask : IVec S512x1024 1)
    (k : Vec F S1x1024x1x128 .f32) : FVec F S512x1024 .f32 :=
  select mask (exp (matmul dot_S512x128_S1024x128_S512x1024_1_1_0_0_n_n none (extractStridedSlice S512x128 ![512, col] q hs)
    (truncf .bf16 (shapeCast S1024x128 k shapeCasts_S1x1024x1x128_S1024x128) bitsLt_bf16_f32) (constant S512x1024 .f32 0x00000000#32)))
    (broadcast S512x1024 (Scalar.ofBits .f32 0x00000000#32))

/-- A head's result for the rows 512 to 1023. -/
def headHi (e : FVec F S512x1024 .f32) (v : Vec F S1x1024x1x128 .f32) : FVec F S512x128 .bf16 :=
  shapeCast S512x128 (truncf .bf16 (mulf
    (matmul dot_S512x1024_S1024x128_S512x128_1_0_0_1_n_n none (truncf .bf16 e bitsLt_bf16_f32)
      (truncf .bf16 (shapeCast S1024x128 v shapeCasts_S1x1024x1x128_S1024x128) bitsLt_bf16_f32) (constant S512x128 .f32 0x00000000#32))
    (broadcastTo S512x128 (divf (broadcast S512x1 (Scalar.ofBits .f32 0x3F800000#32))
      (shapeCast S512x1 (multiReduction .add [1] S512 e 0x00000000#32 reduces_S512x1024_S512 (.inl rfl) rfl) shapeCasts_S512_S512x1))
      broadcasts_S512x1_S512x128)) bitsLt_bf16_f32) shapeCasts_S512x128_S512x128

theorem expLo_at (col : ℕ) (hc : col + 128 ≤ 1024) (hs) (q : FVec Ideal S1024x1024 .bf16) (mask) (k : Vec Ideal S1x512x1x128 .f32)
    (i : Fin 512) (j : Fin 512) :
    expLo col hs q mask k (ix2 i j) = if mask (ix2 i j) = 1#1 then
      Ideal.exp (∑ t : Fin 128, q (ix2 (⟨i.1, by omega⟩ : Fin 1024) (⟨col + t.1, by omega⟩ : Fin 1024)) * k (ix4 (0 : Fin 1) j (0 : Fin 1) t)) else 0 := by
  unfold expLo
  pointwise
  rfl

theorem headLo_at (e : FVec Ideal S512x512 .f32) (v : Vec Ideal S1x512x1x128 .f32) (i : Fin 512) (d : Fin 128) :
    headLo e v (ix2 i d) = (∑ j : Fin 512, e (ix2 i j) * v (ix4 (0 : Fin 1) j (0 : Fin 1) d)) * Ideal.div 1 (∑ j : Fin 512, e (ix2 i j)) := by
  unfold headLo
  pointwise

theorem expHi_at (col : ℕ) (hc : col + 128 ≤ 1024) (hs) (q : FVec Ideal S1024x1024 .bf16) (mask) (k : Vec Ideal S1x1024x1x128 .f32)
    (i : Fin 512) (j : Fin 1024) :
    expHi col hs q mask k (ix2 i j) = if mask (ix2 i j) = 1#1 then
      Ideal.exp (∑ t : Fin 128, q (ix2 (⟨512 + i.1, by omega⟩ : Fin 1024) (⟨col + t.1, by omega⟩ : Fin 1024)) * k (ix4 (0 : Fin 1) j (0 : Fin 1) t)) else 0 := by
  unfold expHi
  pointwise
  rfl

theorem headHi_at (e : FVec Ideal S512x1024 .f32) (v : Vec Ideal S1x1024x1x128 .f32) (i : Fin 512) (d : Fin 128) :
    headHi e v (ix2 i d) = (∑ j : Fin 1024, e (ix2 i j) * v (ix4 (0 : Fin 1) j (0 : Fin 1) d)) * Ideal.div 1 (∑ j : Fin 1024, e (ix2 i j)) := by
  unfold headHi
  pointwise

/-- The queries a device computes: its columns of `x Wq`, scaled. -/
theorem pay2_at (x : Vec Ideal S1x1024x1024 .f32) (w : Vec Ideal S1024x1024 .f32) (i n : Fin 1024) :
    k0_pay2 x w (ix2 i n) = (∑ t : Fin 1024, x (ix3 (0 : Fin 1) i t) * w (ix2 t n)) * Ideal.ofBits .f32 0x3DB504F3#32 := by
  unfold k0_pay2
  pointwise

/-- The partial product a device computes from its context and its rows of the output matrix. -/
theorem pay45_at (x : Vec Ideal S1024x1024 .bf16) (w : Vec Ideal S1024x1024 .f32) (i n : Fin 1024) :
    k0_pay45 x w (ix3 (0 : Fin 1) i n) = ∑ t : Fin 1024, x (ix2 i t) * w (ix2 t n) := by
  unfold k0_pay45
  pointwise

/-- Division by 64 rounded down, as the kernel computes it of a word. -/
abbrev blockW (x : BitVec 32) : BitVec 32 :=
  Scalar.select (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem blockW_fin : ∀ n : Fin 1024, blockW (BitVec.ofNat 32 n.1) = BitVec.ofNat 32 (n.1 / 64) := by
  decide +kernel

theorem blockW_ofNat (n : ℕ) (h : n < 1024) : blockW (BitVec.ofNat 32 n) = BitVec.ofNat 32 (n / 64) := blockW_fin ⟨n, h⟩

theorem sle_fin : ∀ a b : Fin 16, IntOp.cmpi .sle (BitVec.ofNat 32 a.1) (BitVec.ofNat 32 b.1) = 1#1 ↔ a.1 ≤ b.1 := by
  decide +kernel

/-- Comparing the blocks of two positions. -/
theorem sle_block (n m : ℕ) (h : n < 1024) (h' : m < 1024) :
    IntOp.cmpi .sle (BitVec.ofNat 32 (n / 64)) (BitVec.ofNat 32 (m / 64)) = 1#1 ↔ n / 64 ≤ m / 64 :=
  sle_fin ⟨n / 64, by omega⟩ ⟨m / 64, by omega⟩

theorem mask1_at (i j : Fin 512) : k0_pay7 k0_pay3 64#32 k0_pay4 k0_pay5 k0_pay6 (ix2 i j) = 1#1 ↔ j.1 / 64 ≤ i.1 / 64 := by
  unfold k0_pay7 k0_pay4 k0_pay5 k0_pay6 k0_pay3
  pointwise
  rw [show IntOp.addi (BitVec.ofNat 32 i.1) 0#32 = BitVec.ofNat 32 i.1 from BitVec.add_zero _]
  change IntOp.cmpi .sle (blockW (BitVec.ofNat 32 j.1)) (blockW (BitVec.ofNat 32 i.1)) = 1#1 ↔ _
  rw [blockW_ofNat _ (by omega), blockW_ofNat _ (by omega)]
  exact sle_block _ _ (by omega) (by omega)

theorem mask2_at (i : Fin 512) (j : Fin 1024) : k0_pay12 (k0_pay10 k0_pay8 64#32 k0_pay9) k0_pay11 (ix2 i j) = 1#1 ↔ j.1 / 64 ≤ (512 + i.1) / 64 := by
  unfold k0_pay12 k0_pay10 k0_pay9 k0_pay8 k0_pay11
  pointwise
  rw [show IntOp.addi (BitVec.ofNat 32 i.1) 512#32 = BitVec.ofNat 32 (512 + i.1) by
    rw [Nat.add_comm 512 i.1]; exact (BitVec.ofNat_add (n := 32) i.1 512).symm]
  change IntOp.cmpi .sle (blockW (BitVec.ofNat 32 j.1)) (blockW (BitVec.ofNat 32 (512 + i.1))) = 1#1 ↔ _
  rw [blockW_ofNat _ (by omega), blockW_ofNat _ (by omega)]
  exact sle_block _ _ (by omega) (by omega)

end Cert.Xchg
-- ==== Proof.Ctx.lean ====
/-
  The context of a device over the extended reals: every head's share, and the whole array the kernel reads back.
-/
module

public import proofs.«01_k».proof.Proof.Head

@[expose] public section

set_option maxRecDepth 16384

noncomputable section

namespace Cert.Xchg

open Cert.KernelIdeal Cert.KernelIdeal.Gen

open Idealize.ShloMosaic
open Idealize.ShloMosaic.TcCoe

/-- Row `i`'s weight of key `j` in head `h`: the exponential of the score, none where the key's block comes after the row's. -/
def wt (q : Fin 1024 → Fin 1024 → EReal) (K : Fin 1024 → Fin 8 → Fin 128 → EReal) (h : Fin 8) (i j : Fin 1024) : EReal :=
  if j.1 / 64 ≤ i.1 / 64 then Ideal.exp (∑ t : Fin 128, q i (⟨128 * h.1 + t.1, by omega⟩ : Fin 1024) * K j h t) else 0

/-- Head `h`'s result for row `i`. -/
def headV (q : Fin 1024 → Fin 1024 → EReal) (K V : Fin 1024 → Fin 8 → Fin 128 → EReal) (h : Fin 8) (i : Fin 1024) (d : Fin 128) : EReal :=
  (∑ j, wt q K h i j * V j h d) * Ideal.div 1 (∑ j, wt q K h i j)

/-- The context: the heads' results side by side. -/
def ctxV (q : Fin 1024 → Fin 1024 → EReal) (K V : Fin 1024 → Fin 8 → Fin 128 → EReal) (i n : Fin 1024) : EReal :=
  headV q K V ⟨n.1 / 128, by omega⟩ i ⟨n.1 % 128, by omega⟩

theorem ctxV_at (q K V) (h : Fin 8) (i : Fin 1024) (d : Fin 128) (n : Fin 1024) (hn : n.1 = 128 * h.1 + d.1) : ctxV q K V i n = headV q K V h i d := by
  unfold ctxV
  rw [show (⟨n.1 / 128, by omega⟩ : Fin 8) = h from Fin.ext (by show n.1 / 128 = h.1; omega),
    show (⟨n.1 % 128, by omega⟩ : Fin 128) = d from Fin.ext (by show n.1 % 128 = d.1; omega)]

abbrev mask1 : IVec S512x512 1 := k0_pay7 k0_pay3 64#32 k0_pay4 k0_pay5 k0_pay6
abbrev mask2 : IVec S512x1024 1 := k0_pay12 (k0_pay10 k0_pay8 64#32 k0_pay9) k0_pay11

/-- A sum over all keys whose terms vanish past the first half. -/
theorem sum_half (f : Fin 1024 → EReal) (h : ∀ j, 512 ≤ j.1 → f j = 0) : ∑ j : Fin 512, f ⟨j.1, by omega⟩ = ∑ j, f j := by
  rw [show (∑ j, f j) = ∑ j : Fin (512 + 512), f j from rfl, Fin.sum_univ_add]
  rw [Finset.sum_eq_zero (s := Finset.univ) (f := fun j : Fin 512 => f (Fin.natAdd 512 j)) fun j _ => h _ (Nat.le_add_right _ _), add_zero]
  rfl

/-- A head's result for a row of the upper half. -/
theorem lo_head (q : FVec Ideal S1024x1024 .bf16) (K V : Fin 1024 → Fin 8 → Fin 128 → EReal) (h : Fin 8) (col : ℕ) (hcol : col = 128 * h.1) (hs)
    (k v : Vec Ideal S1x512x1x128 .f32)
    (hk : ∀ (j : Fin 512) (t : Fin 128), k (ix4 (0 : Fin 1) j (0 : Fin 1) t) = K ⟨j.1, by omega⟩ h t)
    (hv : ∀ (j : Fin 512) (t : Fin 128), v (ix4 (0 : Fin 1) j (0 : Fin 1) t) = V ⟨j.1, by omega⟩ h t) (i : Fin 512) (d : Fin 128) :
    headLo (expLo col hs q mask1 k) v (ix2 i d) = headV (fun a b => q (ix2 a b)) K V h ⟨i.1, by omega⟩ d := by
  subst hcol
  have he : ∀ j : Fin 512, expLo (128 * h.1) hs q mask1 k (ix2 i j) = wt (fun a b => q (ix2 a b)) K h ⟨i.1, by omega⟩ ⟨j.1, by omega⟩ := by
    intro j
    rw [expLo_at _ (by omega)]
    unfold wt
    simp only [hk, mask1_at]
  have hz : ∀ j : Fin 1024, 512 ≤ j.1 → wt (fun a b => q (ix2 a b)) K h ⟨i.1, by omega⟩ j = 0 := by
    intro j hj
    unfold wt
    rw [if_neg (by show ¬ j.1 / 64 ≤ i.1 / 64; omega)]
  rw [headLo_at]
  simp only [he, hv]
  unfold headV
  rw [← sum_half (fun j => wt (fun a b => q (ix2 a b)) K h ⟨i.1, by omega⟩ j) hz,
    ← sum_half (fun j => wt (fun a b => q (ix2 a b)) K h ⟨i.1, by omega⟩ j * V j h d) fun j hj => by rw [hz j hj, zero_mul]]

/-- A head's result for a row of the lower half. -/
theorem hi_head (q : FVec Ideal S1024x1024 .bf16) (K V : Fin 1024 → Fin 8 → Fin 128 → EReal) (h : Fin 8) (col : ℕ) (hcol : col = 128 * h.1) (hs)
    (k v : Vec Ideal S1x1024x1x128 .f32)
    (hk : ∀ (j : Fin 1024) (t : Fin 128), k (ix4 (0 : Fin 1) j (0 : Fin 1) t) = K j h t)
    (hv : ∀ (j : Fin 1024) (t : Fin 128), v (ix4 (0 : Fin 1) j (0 : Fin 1) t) = V j h t) (i : Fin 512) (d : Fin 128) :
    headHi (expHi col hs q mask2 k) v (ix2 i d) = headV (fun a b => q (ix2 a b)) K V h ⟨512 + i.1, by omega⟩ d := by
  subst hcol
  have he : ∀ j : Fin 1024, expHi (128 * h.1) hs q mask2 k (ix2 i j) = wt (fun a b => q (ix2 a b)) K h ⟨512 + i.1, by omega⟩ j := by
    intro j
    rw [expHi_at _ (by omega)]
    unfold wt
    simp only [hk, mask2_at]
  rw [headHi_at]
  simp only [he, hv]
  rfl

/-- The rectangle of the upper half's head `h` (its columns start at `o 1`), and what is written there. -/
theorem lo_piece (q : FVec Ideal S1024x1024 .bf16) (K V : Fin 1024 → Fin 8 → Fin 128 → EReal) (h : Fin 8) (col : ℕ) (hcol : col = 128 * h.1) (hs)
    (inb : ∀ a, (![0, col] : Fin 2 → ℕ) a + S512x128.size a ≤ S1024x1024.size a) (k v : Vec Ideal S1x512x1x128 .f32)
    (hk : ∀ (j : Fin 512) (t : Fin 128), k (ix4 (0 : Fin 1) j (0 : Fin 1) t) = K ⟨j.1, by omega⟩ h t)
    (hv : ∀ (j : Fin 512) (t : Fin 128), v (ix4 (0 : Fin 1) j (0 : Fin 1) t) = V ⟨j.1, by omega⟩ h t)
    (x : (Rect.unit (s := S1024x1024) ![0, col] S512x128.size inb).shape.Idx) :
    headLo (expLo col hs q mask1 k) v x = (fun y : S1024x1024.Idx => ctxV (fun a b => q (ix2 a b)) K V (y 0) (y 1))
      ((Rect.unit (s := S1024x1024) ![0, col] S512x128.size inb).emb x) := by
  obtain ⟨i, d, rfl⟩ : ∃ (i : Fin 512) (d : Fin 128), x = ix2 i d := ⟨x 0, x 1, by idx_vars x⟩
  refine (lo_head q K V h col hcol hs k v hk hv i d).trans ?_
  have h0 : ((Rect.unit (s := S1024x1024) ![0, col] S512x128.size inb).emb (ix2 i d)) 0 = (⟨i.1, by omega⟩ : Fin 1024) :=
    Fin.ext (by show 0 + 1 * i.val = i.1; omega)
  show _ = ctxV _ K V _ _
  rw [h0]
  refine (ctxV_at _ K V h _ d _ ?_).symm
  show col + 1 * d.val = 128 * h.val + d.val
  omega

theorem hi_piece (q : FVec Ideal S1024x1024 .bf16) (K V : Fin 1024 → Fin 8 → Fin 128 → EReal) (h : Fin 8) (col : ℕ) (hcol : col = 128 * h.1) (hs)
    (inb : ∀ a, (![512, col] : Fin 2 → ℕ) a + S512x128.size a ≤ S1024x1024.size a) (k v : Vec Ideal S1x1024x1x128 .f32)
    (hk : ∀ (j : Fin 1024) (t : Fin 128), k (ix4 (0 : Fin 1) j (0 : Fin 1) t) = K j h t)
    (hv : ∀ (j : Fin 1024) (t : Fin 128), v (ix4 (0 : Fin 1) j (0 : Fin 1) t) = V j h t)
    (x : (Rect.unit (s := S1024x1024) ![512, col] S512x128.size inb).shape.Idx) :
    headHi (expHi col hs q mask2 k) v x = (fun y : S1024x1024.Idx => ctxV (fun a b => q (ix2 a b)) K V (y 0) (y 1))
      ((Rect.unit (s := S1024x1024) ![512, col] S512x128.size inb).emb x) := by
  obtain ⟨i, d, rfl⟩ : ∃ (i : Fin 512) (d : Fin 128), x = ix2 i d := ⟨x 0, x 1, by idx_vars x⟩
  refine (hi_head q K V h col hcol hs k v hk hv i d).trans ?_
  have h0 : ((Rect.unit (s := S1024x1024) ![512, col] S512x128.size inb).emb (ix2 i d)) 0 = (⟨512 + i.1, by omega⟩ : Fin 1024) :=
    Fin.ext (by show 512 + 1 * i.val = 512 + i.1; omega)
  show _ = ctxV _ K V _ _
  rw [h0]
  refine (ctxV_at _ K V h _ d _ ?_).symm
  show col + 1 * d.val = 128 * h.val + d.val
  omega

end Cert.Xchg
-- ==== Proof.CtxRead.lean ====
/-
  The context as the kernel reads it back from its sixteen writes, and a device's partial product.
-/
module

public import proofs.«01_k».proof.Proof.Ctx
public import proofs.«01_k».proof.Proof.Body

@[expose] public section

set_option maxRecDepth 16384

noncomputable section

namespace Cert.Xchg

open Cert.KernelIdeal Cert.KernelIdeal.Gen

open Idealize.ShloMosaic
open Idealize.ShloMosaic.TcCoe

/-- The copied keys (half 0) and values (half 1), by key, head and column. -/
def kvF (kv : kvM.view.ty.Contents (Elt Ideal)) (a : Fin 2) (j : Fin 1024) (h : Fin 8) (t : Fin 128) : EReal :=
  kvM.view.read (Elt Ideal) kv (ix4 a j h t)

theorem kv_lo (kv : kvM.view.ty.Contents (Elt Ideal)) (a h : ℕ) (ha : a < 2) (hh : h < 8) (inb) (j : Fin 512) (t : Fin 128) :
    View.readAt (Elt Ideal) kvM.view (Rect.unit (s := S2x1024x8x128) ![a, 0, h, 0] S1x512x1x128.size inb).toLoadRect kv (ix4 (0 : Fin 1) j (0 : Fin 1) t)
      = kvF kv ⟨a, ha⟩ ⟨j.1, by omega⟩ ⟨h, hh⟩ t := by
  refine congrArg (kvM.view.read (Elt Ideal) kv) (funext fun b => Fin.ext ?_)
  fin_cases b
  · show a + 1 * 0 = a; omega
  · show 0 + 1 * j.1 = j.1; omega
  · show h + 1 * 0 = h; omega
  · show 0 + 1 * t.1 = t.1; omega

theorem kv_hi (kv : kvM.view.ty.Contents (Elt Ideal)) (a h : ℕ) (ha : a < 2) (hh : h < 8) (inb) (j : Fin 1024) (t : Fin 128) :
    View.readAt (Elt Ideal) kvM.view (Rect.unit (s := S2x1024x8x128) ![a, 0, h, 0] S1x1024x1x128.size inb).toLoadRect kv (ix4 (0 : Fin 1) j (0 : Fin 1) t)
      = kvF kv ⟨a, ha⟩ j ⟨h, hh⟩ t := by
  refine congrArg (kvM.view.read (Elt Ideal) kv) (funext fun b => Fin.ext ?_)
  fin_cases b
  · show a + 1 * 0 = a; omega
  · show 0 + 1 * j.1 = j.1; omega
  · show h + 1 * 0 = h; omega
  · show 0 + 1 * t.1 = t.1; omega

section Same
variable (q : FVec Ideal S1024x1024 .bf16)

theorem lo0_eq (m : IVec S512x512 1) (k v : Vec Ideal S1x512x1x128 .f32) : k0_pay17 (k0_pay14 q m k) (k0_pay15 q m k) (k0_pay16 v) (constant S512x128 .f32 0x00000000#32) = headLo (expLo 0 slices_S1024x1024_o0_0_S512x128 q m k) v := rfl
theorem hi0_eq (m : IVec S512x1024 1) (k v : Vec Ideal S1x1024x1x128 .f32) : k0_pay18 q m k v = headHi (expHi 0 slices_S1024x1024_o512_0_S512x128 q m k) v := rfl
theorem lo1_eq (m : IVec S512x512 1) (k v : Vec Ideal S1x512x1x128 .f32) : k0_pay20 m (k0_pay19 q k) v = headLo (expLo 128 slices_S1024x1024_o0_128_S512x128 q m k) v := rfl
theorem hi1_eq (m : IVec S512x1024 1) (k v : Vec Ideal S1x1024x1x128 .f32) : k0_pay22 (k0_pay21 q m k v) = headHi (expHi 128 slices_S1024x1024_o512_128_S512x128 q m k) v := rfl
theorem lo2_eq (m : IVec S512x512 1) (k v : Vec Ideal S1x512x1x128 .f32) : k0_pay23 q m k v = headLo (expLo 256 slices_S1024x1024_o0_256_S512x128 q m k) v := rfl
theorem hi2_eq (m : IVec S512x1024 1) (k v : Vec Ideal S1x1024x1x128 .f32) : k0_pay25 (k0_pay24 q m k) v = headHi (expHi 256 slices_S1024x1024_o512_256_S512x128 q m k) v := rfl
theorem lo3_eq (m : IVec S512x512 1) (k v : Vec Ideal S1x512x1x128 .f32) : k0_pay27 (k0_pay26 q m k v) = headLo (expLo 384 slices_S1024x1024_o0_384_S512x128 q m k) v := rfl
theorem hi3_eq (m : IVec S512x1024 1) (k v : Vec Ideal S1x1024x1x128 .f32) : k0_pay28 q m k v = headHi (expHi 384 slices_S1024x1024_o512_384_S512x128 q m k) v := rfl
theorem lo4_eq (m : IVec S512x512 1) (k v : Vec Ideal S1x512x1x128 .f32) : k0_pay31 (k0_pay29 q m k) (k0_pay30 q m k) v = headLo (expLo 512 slices_S1024x1024_o0_512_S512x128 q m k) v := rfl
theorem hi4_eq (m : IVec S512x1024 1) (k v : Vec Ideal S1x1024x1x128 .f32) : k0_pay32 q m k v = headHi (expHi 512 slices_S1024x1024_o512_512_S512x128 q m k) v := rfl
theorem lo5_eq (m : IVec S512x512 1) (k v : Vec Ideal S1x512x1x128 .f32) : k0_pay33 q m k v = headLo (expLo 640 slices_S1024x1024_o0_640_S512x128 q m k) v := rfl
theorem hi5_eq (m : IVec S512x1024 1) (k v : Vec Ideal S1x1024x1x128 .f32) : k0_pay36 (k0_pay34 q m k) (k0_pay35 q m k) v = headHi (expHi 640 slices_S1024x1024_o512_640_S512x128 q m k) v := rfl
theorem lo6_eq (m : IVec S512x512 1) (k v : Vec Ideal S1x512x1x128 .f32) : k0_pay37 q m k v = headLo (expLo 768 slices_S1024x1024_o0_768_S512x128 q m k) v := rfl
theorem hi6_eq (m : IVec S512x1024 1) (k v : Vec Ideal S1x1024x1x128 .f32) : k0_pay39 m (k0_pay38 q) k v = headHi (expHi 768 slices_S1024x1024_o512_768_S512x128 q m k) v := rfl
theorem lo7_eq (m : IVec S512x512 1) (k v : Vec Ideal S1x512x1x128 .f32) : k0_pay43 (k0_pay41 q m k) (k0_pay42 q m k) v = headLo (expLo 896 slices_S1024x1024_o0_896_S512x128 q m k) v := rfl
theorem hi7_eq (m : IVec S512x1024 1) (k v : Vec Ideal S1x1024x1x128 .f32) : k0_pay44 q m k v = headHi (expHi 896 slices_S1024x1024_o512_896_S512x128 q m k) v := rfl
end Same

theorem mask1_run : cmpi .sle attnRun.sl.v100 attnRun.sl.v75 = mask1 := rfl
theorem mask2_run : k0_pay12 attnRun.sl.v128 attnRun.sl.v153 = mask2 := rfl

variable (c : Dev nD) (f0 : Buf (Elt Ideal) (xM.view.loc (c : Thread nD τ))) (f1 : Buf (Elt Ideal) (wqM.view.loc (c : Thread nD τ)))
  (kv : Buf (Elt Ideal) (kvM.view.loc (c : Thread nD τ)))

/-- The context's values. -/
abbrev ctxG : S1024x1024.Idx → EReal := fun y => ctxV (fun a b => attnRun.sl.r c f0 f1 (ix2 a b)) (kvF kv 0) (kvF kv 1) (y 0) (y 1)

/-- Every write of the context is the context's own values at the places it writes. -/
theorem pieces_ctx : ∀ p ∈ attnRun.sl.H6_16 c f0 f1 kv, ∀ x, p.2 x = ctxG c f0 f1 kv (p.1.emb x) := by
  unfold attnRun.sl.H6_16
  unfold attnRun.sl.r_1 attnRun.sl.r_2 attnRun.sl.r_3 attnRun.sl.r_4 attnRun.sl.r_5 attnRun.sl.r_6 attnRun.sl.r_7 attnRun.sl.r_8 attnRun.sl.r_9 attnRun.sl.r_10 attnRun.sl.r_11 attnRun.sl.r_12 attnRun.sl.r_13 attnRun.sl.r_14 attnRun.sl.r_15 attnRun.sl.cst_95
  rw [mask1_run, mask2_run]
  refine List.forall_mem_cons.mpr ⟨?_, ?_⟩
  · rw [hi7_eq]
    exact hi_piece _ _ _ 7 896 rfl slices_S1024x1024_o512_896_S512x128 inb_S1024x1024_S512x128_512_896 _ _ (kv_hi kv 0 7 (by omega) (by omega) _) (kv_hi kv 1 7 (by omega) (by omega) _)
  refine List.forall_mem_cons.mpr ⟨?_, ?_⟩
  · rw [lo7_eq]
    exact lo_piece _ _ _ 7 896 rfl slices_S1024x1024_o0_896_S512x128 inb_S1024x1024_S512x128_0_896 _ _ (kv_lo kv 0 7 (by omega) (by omega) _) (kv_lo kv 1 7 (by omega) (by omega) _)
  refine List.forall_mem_cons.mpr ⟨?_, ?_⟩
  · rw [hi6_eq]
    exact hi_piece _ _ _ 6 768 rfl slices_S1024x1024_o512_768_S512x128 inb_S1024x1024_S512x128_512_768 _ _ (kv_hi kv 0 6 (by omega) (by omega) _) (kv_hi kv 1 6 (by omega) (by omega) _)
  refine List.forall_mem_cons.mpr ⟨?_, ?_⟩
  · rw [lo6_eq]
    exact lo_piece _ _ _ 6 768 rfl slices_S1024x1024_o0_768_S512x128 inb_S1024x1024_S512x128_0_768 _ _ (kv_lo kv 0 6 (by omega) (by omega) _) (kv_lo kv 1 6 (by omega) (by omega) _)
  refine List.forall_mem_cons.mpr ⟨?_, ?_⟩
  · rw [hi5_eq]
    exact hi_piece _ _ _ 5 640 rfl slices_S1024x1024_o512_640_S512x128 inb_S1024x1024_S512x128_512_640 _ _ (kv_hi kv 0 5 (by omega) (by omega) _) (kv_hi kv 1 5 (by omega) (by omega) _)
  refine List.forall_mem_cons.mpr ⟨?_, ?_⟩
  · rw [lo5_eq]
    exact lo_piece _ _ _ 5 640 rfl slices_S1024x1024_o0_640_S512x128 inb_S1024x1024_S512x128_0_640 _ _ (kv_lo kv 0 5 (by omega) (by omega) _) (kv_lo kv 1 5 (by omega) (by omega) _)
  refine List.forall_mem_cons.mpr ⟨?_, ?_⟩
  · rw [hi4_eq]
    exact hi_piece _ _ _ 4 512 rfl slices_S1024x1024_o512_512_S512x128 inb_S1024x1024_S512x128_512_512 _ _ (kv_hi kv 0 4 (by omega) (by omega) _) (kv_hi kv 1 4 (by omega) (by omega) _)
  refine List.forall_mem_cons.mpr ⟨?_, ?_⟩
  · rw [lo4_eq]
    exact lo_piece _ _ _ 4 512 rfl slices_S1024x1024_o0_512_S512x128 inb_S1024x1024_S512x128_0_512 _ _ (kv_lo kv 0 4 (by omega) (by omega) _) (kv_lo kv 1 4 (by omega) (by omega) _)
  refine List.forall_mem_cons.mpr ⟨?_, ?_⟩
  · rw [hi3_eq]
    exact hi_piece _ _ _ 3 384 rfl slices_S1024x1024_o512_384_S512x128 inb_S1024x1024_S512x128_512_384 _ _ (kv_hi kv 0 3 (by omega) (by omega) _) (kv_hi kv 1 3 (by omega) (by omega) _)
  refine List.forall_mem_cons.mpr ⟨?_, ?_⟩
  · rw [lo3_eq]
    exact lo_piece _ _ _ 3 384 rfl slices_S1024x1024_o0_384_S512x128 inb_S1024x1024_S512x128_0_384 _ _ (kv_lo kv 0 3 (by omega) (by omega) _) (kv_lo kv 1 3 (by omega) (by omega) _)
  refine List.forall_mem_cons.mpr ⟨?_, ?_⟩
  · rw [hi2_eq]
    exact hi_piece _ _ _ 2 256 rfl slices_S1024x1024_o512_256_S512x128 inb_S1024x1024_S512x128_512_256 _ _ (kv_hi kv 0 2 (by omega) (by omega) _) (kv_hi kv 1 2 (by omega) (by omega) _)
  refine List.forall_mem_cons.mpr ⟨?_, ?_⟩
  · rw [lo2_eq]
    exact lo_piece _ _ _ 2 256 rfl slices_S1024x1024_o0_256_S512x128 inb_S1024x1024_S512x128_0_256 _ _ (kv_lo kv 0 2 (by omega) (by omega) _) (kv_lo kv 1 2 (by omega) (by omega) _)
  refine List.forall_mem_cons.mpr ⟨?_, ?_⟩
  · rw [hi1_eq]
    exact hi_piece _ _ _ 1 128 rfl slices_S1024x1024_o512_128_S512x128 inb_S1024x1024_S512x128_512_128 _ _ (kv_hi kv 0 1 (by omega) (by omega) _) (kv_hi kv 1 1 (by omega) (by omega) _)
  refine List.forall_mem_cons.mpr ⟨?_, ?_⟩
  · rw [lo1_eq]
    exact lo_piece _ _ _ 1 128 rfl slices_S1024x1024_o0_128_S512x128 inb_S1024x1024_S512x128_0_128 _ _ (kv_lo kv 0 1 (by omega) (by omega) _) (kv_lo kv 1 1 (by omega) (by omega) _)
  refine List.forall_mem_cons.mpr ⟨?_, ?_⟩
  · rw [hi0_eq]
    exact hi_piece _ _ _ 0 0 rfl slices_S1024x1024_o512_0_S512x128 inb_S1024x1024_S512x128_512_0 _ _ (kv_hi kv 0 0 (by omega) (by omega) _) (kv_hi kv 1 0 (by omega) (by omega) _)
  refine List.forall_mem_cons.mpr ⟨?_, ?_⟩
  · rw [lo0_eq]
    exact lo_piece _ _ _ 0 0 rfl slices_S1024x1024_o0_0_S512x128 inb_S1024x1024_S512x128_0_0 _ _ (kv_lo kv 0 0 (by omega) (by omega) _) (kv_lo kv 1 0 (by omega) (by omega) _)
  exact fun p hp => absurd hp List.not_mem_nil

/-- Every place of the context is written. -/
theorem ctx_covered (y : S1024x1024.Idx) : ∃ p ∈ attnRun.sl.H6_16 c f0 f1 kv, y ∈ p.1.set := by
  have h0 : (y 0 : Fin 1024).1 < 1024 := (y 0).2
  have h1 : (y 1 : Fin 1024).1 < 1024 := (y 1).2
  have key : ∃ p : ℕ × ℕ, p ∈ [(512, 896), (0, 896), (512, 768), (0, 768), (512, 640), (0, 640), (512, 512), (0, 512), (512, 384), (0, 384), (512, 256), (0, 256),
      (512, 128), (0, 128), (512, 0), (0, 0)] ∧ p.1 ≤ (y 0 : Fin 1024).1 ∧ (y 0 : Fin 1024).1 < p.1 + 512 ∧ p.2 ≤ (y 1 : Fin 1024).1 ∧ (y 1 : Fin 1024).1 < p.2 + 128 := by
    refine ⟨((y 0 : Fin 1024).1 / 512 * 512, (y 1 : Fin 1024).1 / 128 * 128), ?_, by omega, by omega, by omega, by omega⟩
    have e0 : (y 0 : Fin 1024).1 / 512 < 2 := by omega
    have e1 : (y 1 : Fin 1024).1 / 128 < 8 := by omega
    generalize (y 0 : Fin 1024).1 / 512 = a at e0
    generalize (y 1 : Fin 1024).1 / 128 = b at e1
    interval_cases a <;> interval_cases b <;> simp
  obtain ⟨p, hp, h⟩ := key
  have hm : ∀ (o : Fin 2 → ℕ) (inb), o 0 = p.1 → o 1 = p.2 → y ∈ (Rect.unit (s := S1024x1024) o S512x128.size inb).set := by
    intro o inb e0 e1
    rw [Rect.mem_set_unit]
    intro a
    fin_cases a
    · show o 0 ≤ (y 0).val ∧ (y 0).val < o 0 + 512
      rw [e0]; exact ⟨h.1, h.2.1⟩
    · show o 1 ≤ (y 1).val ∧ (y 1).val < o 1 + 128
      rw [e1]; exact ⟨h.2.2.1, h.2.2.2⟩
  unfold attnRun.sl.H6_16
  simp only [List.mem_cons, List.not_mem_nil, or_false] at hp
  rcases hp with hp | hp | hp | hp | hp | hp | hp | hp | hp | hp | hp | hp | hp | hp | hp | hp
  · exact ⟨_, List.mem_of_getElem? (i := 0) rfl, hm ![512, 896] inb_S1024x1024_S512x128_512_896 (by rw [hp]; rfl) (by rw [hp]; rfl)⟩
  · exact ⟨_, List.mem_of_getElem? (i := 1) rfl, hm ![0, 896] inb_S1024x1024_S512x128_0_896 (by rw [hp]; rfl) (by rw [hp]; rfl)⟩
  · exact ⟨_, List.mem_of_getElem? (i := 2) rfl, hm ![512, 768] inb_S1024x1024_S512x128_512_768 (by rw [hp]; rfl) (by rw [hp]; rfl)⟩
  · exact ⟨_, List.mem_of_getElem? (i := 3) rfl, hm ![0, 768] inb_S1024x1024_S512x128_0_768 (by rw [hp]; rfl) (by rw [hp]; rfl)⟩
  · exact ⟨_, List.mem_of_getElem? (i := 4) rfl, hm ![512, 640] inb_S1024x1024_S512x128_512_640 (by rw [hp]; rfl) (by rw [hp]; rfl)⟩
  · exact ⟨_, List.mem_of_getElem? (i := 5) rfl, hm ![0, 640] inb_S1024x1024_S512x128_0_640 (by rw [hp]; rfl) (by rw [hp]; rfl)⟩
  · exact ⟨_, List.mem_of_getElem? (i := 6) rfl, hm ![512, 512] inb_S1024x1024_S512x128_512_512 (by rw [hp]; rfl) (by rw [hp]; rfl)⟩
  · exact ⟨_, List.mem_of_getElem? (i := 7) rfl, hm ![0, 512] inb_S1024x1024_S512x128_0_512 (by rw [hp]; rfl) (by rw [hp]; rfl)⟩
  · exact ⟨_, List.mem_of_getElem? (i := 8) rfl, hm ![512, 384] inb_S1024x1024_S512x128_512_384 (by rw [hp]; rfl) (by rw [hp]; rfl)⟩
  · exact ⟨_, List.mem_of_getElem? (i := 9) rfl, hm ![0, 384] inb_S1024x1024_S512x128_0_384 (by rw [hp]; rfl) (by rw [hp]; rfl)⟩
  · exact ⟨_, List.mem_of_getElem? (i := 10) rfl, hm ![512, 256] inb_S1024x1024_S512x128_512_256 (by rw [hp]; rfl) (by rw [hp]; rfl)⟩
  · exact ⟨_, List.mem_of_getElem? (i := 11) rfl, hm ![0, 256] inb_S1024x1024_S512x128_0_256 (by rw [hp]; rfl) (by rw [hp]; rfl)⟩
  · exact ⟨_, List.mem_of_getElem? (i := 12) rfl, hm ![512, 128] inb_S1024x1024_S512x128_512_128 (by rw [hp]; rfl) (by rw [hp]; rfl)⟩
  · exact ⟨_, List.mem_of_getElem? (i := 13) rfl, hm ![0, 128] inb_S1024x1024_S512x128_0_128 (by rw [hp]; rfl) (by rw [hp]; rfl)⟩
  · exact ⟨_, List.mem_of_getElem? (i := 14) rfl, hm ![512, 0] inb_S1024x1024_S512x128_512_0 (by rw [hp]; rfl) (by rw [hp]; rfl)⟩
  · exact ⟨_, List.mem_of_getElem? (i := 15) rfl, hm ![0, 0] inb_S1024x1024_S512x128_0_0 (by rw [hp]; rfl) (by rw [hp]; rfl)⟩

theorem ctx_run : (attnRun c f0 f1 kv).1 = attnRun.sl.v535 c f0 f1 kv := by
  unfold attnRun
  rfl

/-- The context the kernel reads back. -/
theorem ctx_read (y : S1024x1024.Idx) : (attnRun c f0 f1 kv).1 y = ctxG c f0 f1 kv y := by
  rw [ctx_run]
  unfold attnRun.sl.v535
  have hp := pieces_ctx c f0 f1 kv
  have hc := ctx_covered c f0 f1 kv
  generalize attnRun.sl.H6_16 c f0 f1 kv = L at hp hc
  generalize ctxG c f0 f1 kv = G at hp
  refine (View.read_writes_apply_of_pieces cM.view _ G L hp _ (hc _)).trans (congrArg G ?_)
  refine funext fun a => Fin.ext ?_
  fin_cases a
  · show 0 + 1 * (y 0).val = (y 0).val; omega
  · show 0 + 1 * (y 1).val = (y 1).val; omega

end Cert.Xchg
-- ==== Proof.PartVal.lean ====
/-
  A device's partial product as sums over its arguments.
-/
module

public import proofs.«01_k».proof.Proof.CtxRead
public import Idealize.ShloMosaic.Lib.ValueLayout

@[expose] public section

set_option maxRecDepth 16384

noncomputable section

namespace Cert.Xchg

open Cert.KernelIdeal Cert.KernelIdeal.Gen

open Idealize.ShloMosaic
open Idealize.ShloMosaic.TcCoe

theorem off1_fin : ∀ c : Dev nD, k0_off1 c 0 = 0 ∧ k0_off1 c 1 = 0 ∧ k0_off1 c 2 = 8 * c.val ∧ k0_off1 c 3 = 0 := by decide +kernel

/-- Head `h` of device `c`, among all heads. -/
abbrev headOf (c : Dev nD) (h : Fin 8) : Fin 64 := ⟨8 * c.val + h.val, by have := c.isLt; have h8 : nD = 8 := rfl; omega⟩

/-- An index matched with the shape that has one more leading axis, of one element. -/
theorem row_ix (hn : S1024x8x128.numel = S1x1024x8x128.numel) (j : Fin 1024) (h : Fin 8) (t : Fin 128) :
    Shape.reshapeEquiv hn (ix3 j h t) = (ix4 (0 : Fin 1) j h t : S1x1024x8x128.Idx) := ValueIdx.reshapeEquiv_ix3_1abc hn j h t

theorem kvF_at (kv : kvM.view.ty.Contents (Elt Ideal)) (a : Fin 2) (j : Fin 1024) (h : Fin 8) (t : Fin 128) :
    kvF kv a j h t = kv (ix4 a j h t : S2x1024x8x128.Idx) := rfl

theorem kWin_emb (j : Fin 1024) (h : Fin 8) (t : Fin 128) : kWin.view.emb (ix3 j h t) = (ix4 (0 : Fin 2) j h t : S2x1024x8x128.Idx) := by
  show (kvM.slice (Rect.unit (s := S2x1024x8x128) ![0, 0, 0, 0] S1x1024x8x128.size inb_S2x1024x8x128_S1x1024x8x128_0_0_0_0) (fun _ => rfl)).view.emb (Shape.reshapeEquiv _ (ix3 j h t)) = _
  rw [row_ix]
  refine funext fun a => Fin.ext ?_
  fin_cases a
  · rfl
  · show 0 + 1 * j.val = j.val; omega
  · show 0 + 1 * h.val = h.val; omega
  · show 0 + 1 * t.val = t.val; omega

theorem vWin_emb (j : Fin 1024) (h : Fin 8) (t : Fin 128) : vWin.view.emb (ix3 j h t) = (ix4 (1 : Fin 2) j h t : S2x1024x8x128.Idx) := by
  show (kvM.slice (Rect.unit (s := S2x1024x8x128) ![1, 0, 0, 0] S1x1024x8x128.size inb_S2x1024x8x128_S1x1024x8x128_1_0_0_0) (fun _ => rfl)).view.emb (Shape.reshapeEquiv _ (ix3 j h t)) = _
  rw [row_ix]
  refine funext fun a => Fin.ext ?_
  fin_cases a
  · rfl
  · show 0 + 1 * j.val = j.val; omega
  · show 0 + 1 * h.val = h.val; omega
  · show 0 + 1 * t.val = t.val; omega

theorem kSrc_emb (c : Dev nD) (j : Fin 1024) (h : Fin 8) (t : Fin 128) : (kSrc c).view.emb (ix3 j h t) = (ix4 (0 : Fin 1) j (headOf c h) t : S1x1024x64x128.Idx) := by
  show (kM.slice (Rect.unit (s := S1x1024x64x128) (k0_off1 c) S1x1024x8x128.size (k0_off1_inb c)) (fun _ => rfl)).view.emb (Shape.reshapeEquiv _ (ix3 j h t)) = _
  rw [row_ix]
  obtain ⟨h0, h1, h2, h3⟩ := off1_fin c
  refine funext fun a => Fin.ext ?_
  fin_cases a
  · show k0_off1 c 0 + 1 * 0 = 0; omega
  · show k0_off1 c 1 + 1 * j.val = j.val; omega
  · show k0_off1 c 2 + 1 * h.val = 8 * c.val + h.val; omega
  · show k0_off1 c 3 + 1 * t.val = t.val; omega

/-- The keys' half of the buffer is not in the values' half. -/
theorem vWin_off (j : Fin 1024) (h : Fin 8) (t : Fin 128) : (ix4 (0 : Fin 2) j h t : S2x1024x8x128.Idx) ∉ vWin.view.set := by
  rw [Memref.set_view_squeeze, View.set_slice_whole, Rect.mem_set_unit]
  intro hm
  exact absurd (hm 0).1 (show ¬ (1 ≤ 0) by decide)

variable (m : (ℓ : Loc nD τ sig) → Buf (Elt Ideal) ℓ) (c : Dev nD)

/-- The arguments of a device by their coordinates. -/
def argX (i t : Fin 1024) : EReal := m ((c : Thread nD τ).loc main_arg0) (ix3 (0 : Fin 1) i t : S1x1024x1024.Idx)
def argW (t n : Fin 1024) : EReal := m ((c : Thread nD τ).loc main_arg1) (ix2 t n : S1024x1024.Idx)
def argK (j : Fin 1024) (g : Fin 64) (t : Fin 128) : EReal := m ((c : Thread nD τ).loc main_arg2) (ix4 (0 : Fin 1) j g t : S1x1024x64x128.Idx)
def argV (j : Fin 1024) (g : Fin 64) (t : Fin 128) : EReal := m ((c : Thread nD τ).loc main_arg3) (ix4 (0 : Fin 1) j g t : S1x1024x64x128.Idx)
def argO (t n : Fin 1024) : EReal := m ((c : Thread nD τ).loc main_arg4) (ix2 t n : S1024x1024.Idx)

/-- The copied values are the device's heads of the values. -/
theorem kvF_v (j : Fin 1024) (h : Fin 8) (t : Fin 128) :
    kvF (kvAt c (m ((c : Thread nD τ).loc main_arg2)) (m ((c : Thread nD τ).loc main_arg3))) 1 j h t = argV m c j (headOf c h) t := by
  rw [kvF_at]
  unfold kvAt kvFrom
  rw [← vWin_emb j h t]
  exact (View.write_emb_of_mem _ _ (Finset.mem_univ _)).trans (congrArg (m ((c : Thread nD τ).loc main_arg3)) (kSrc_emb c j h t))

/-- The copied keys are the device's heads of the keys. -/
theorem kvF_k (j : Fin 1024) (h : Fin 8) (t : Fin 128) :
    kvF (kvAt c (m ((c : Thread nD τ).loc main_arg2)) (m ((c : Thread nD τ).loc main_arg3))) 0 j h t = argK m c j (headOf c h) t := by
  rw [kvF_at]
  unfold kvAt kvFrom
  refine (View.write_of_not_mem _ _ _ (vWin_off j h t)).trans ?_
  rw [← kWin_emb j h t]
  exact (View.write_emb_of_mem _ _ (Finset.mem_univ _)).trans (congrArg (m ((c : Thread nD τ).loc main_arg2)) (kSrc_emb c j h t))

/-- The queries of a device. -/
def qV (i n : Fin 1024) : EReal := (∑ t, argX m c i t * argW m c t n) * Ideal.ofBits .f32 0x3DB504F3#32

theorem q_read (i n : Fin 1024) : attnRun.sl.r c (xAt m c) (wqAt m c) (ix2 i n) = qV m c i n := by
  unfold attnRun.sl.r
  rw [pay2_at]
  unfold qV
  refine congrArg (· * _) (Finset.sum_congr rfl fun t _ => congrArg₂ (· * ·) ?_ ?_)
  · refine congrArg (m ((c : Thread nD τ).loc main_arg0)) (funext fun a => Fin.ext ?_)
    fin_cases a
    · rfl
    · show 0 + 1 * (0 + 1 * i.val) = i.val; omega
    · show 0 + 1 * (0 + 1 * t.val) = t.val; omega
  · refine congrArg (m ((c : Thread nD τ).loc main_arg1)) (funext fun a => Fin.ext ?_)
    fin_cases a
    · show 0 + 1 * (0 + 1 * t.val) = t.val; omega
    · show 0 + 1 * (0 + 1 * n.val) = n.val; omega

/-- A device's partial product: its heads' results against its rows of the output matrix. -/
theorem part_at (i n : Fin 1024) :
    part m c (ix3 (0 : Fin 1) i n : S1x1024x1024.Idx)
      = ∑ t : Fin 1024, ctxV (qV m c) (fun j h d => argK m c j (headOf c h) d) (fun j h d => argV m c j (headOf c h) d) i t * argO m c t n := by
  unfold part
  refine (pay45_at _ _ i n).trans (Finset.sum_congr rfl fun t _ => congrArg₂ (· * ·) ?_ ?_)
  · unfold ctxAt
    rw [ctx_read]
    unfold ctxG
    rw [show (fun a b => attnRun.sl.r c (xAt m c) (wqAt m c) (ix2 a b)) = qV m c from funext fun a => funext fun b => q_read m c a b,
      show kvF (kvAt c (m ((c : Thread nD τ).loc main_arg2)) (m ((c : Thread nD τ).loc main_arg3))) 0 = fun j h d => argK m c j (headOf c h) d from
        funext fun j => funext fun h => funext fun d => kvF_k m c j h d,
      show kvF (kvAt c (m ((c : Thread nD τ).loc main_arg2)) (m ((c : Thread nD τ).loc main_arg3))) 1 = fun j h d => argV m c j (headOf c h) d from
        funext fun j => funext fun h => funext fun d => kvF_v m c j h d]
    rfl
  · refine congrArg (m ((c : Thread nD τ).loc main_arg4)) (funext fun a => Fin.ext ?_)
    fin_cases a
    · show 0 + 1 * (0 + 1 * t.val) = t.val; omega
    · show 0 + 1 * (0 + 1 * n.val) = n.val; omega

end Cert.Xchg
-- ==== Proof.Pre.lean ====
/-
  The precondition read back: the inputs, the query weights and the keys are finite.
-/
module

public import proofs.«01_k».proof.Defs
public import proofs.«01_k».proof.Proof.Soft
public import proofs.«01_k».proof.Proof.PartVal
public import Idealize.ShloMosaic.Lib.ReduceAll
public import Idealize.ShloMosaic.Lib.Decide

@[expose] public section

set_option maxRecDepth 16384

noncomputable section

namespace Cert.Xchg

open Idealize.ShloMosaic
open Cert.Soft (Fin')

/-- The side conditions of the precondition on a device's blocks. -/
instance preK : Cert.Pre_finite_KernelIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S1x1024x64x128 := by decide
  reducesTo_S1x1024x64x128_S_d0_1_2_3 := by decide

/-- The side conditions of the precondition on the whole arrays. -/
instance preR : Cert.Pre_finite_ReferenceIdeal.Facts where
  bcast_S_S1x1024x1024 := by decide
  reducesTo_S1x1024x1024_S_d0_1_2 := by decide
  h_S_ := by decide
  bcast_S_S1024x8192 := by decide
  reducesTo_S1024x8192_S_d0_1 := by decide
  bcast_S_S1x1024x64x128 := by decide
  reducesTo_S1x1024x64x128_S_d0_1_2_3 := by decide

/-- A number whose magnitude is below infinity is finite. -/
theorem fin_of_abs (x : EReal) (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  have hlt : max x (-x) < ⊤ := by
    by_contra hn
    simp [Ideal.cmp, hn] at h
  obtain ⟨h1, h2⟩ := max_lt_iff.1 hlt
  refine ⟨x.toReal, (EReal.coe_toReal h1.ne fun hb => ?_).symm⟩
  rw [hb] at h2
  simp at h2

instance : Subsingleton Cert.Pre_finite_KernelIdeal.S_.Idx := ⟨fun a b => funext fun d => d.elim0⟩

section
open Cert.KernelIdeal Cert.KernelIdeal.Gen
open Idealize.ShloMosaic.TcCoe

variable (m : (ℓ : Loc nD τ sig) → Buf (Elt Ideal) ℓ)

/-- What the precondition says of a device's arguments. -/
theorem pre_fin (h : Cert.Pre_KernelIdeal_finite_KernelIdeal m) (c : Dev nD) :
    (∀ i t, Fin' (argX m c i t)) ∧ (∀ t n, Fin' (argW m c t n)) ∧ (∀ j g d, Fin' (argK m c j g d)) := by
  have e := congrFun (h c) ix0
  obtain ⟨e12, e3⟩ := IntOp.andi_eq_one.1 e
  obtain ⟨e1, e2⟩ := IntOp.andi_eq_one.1 e12
  exact ⟨fun i t => fin_of_abs _ (Host.reduce_andi_all _ _ _ _ _ e1 (ix3 (0 : Fin 1) i t)),
    fun t n => fin_of_abs _ (Host.reduce_andi_all _ _ _ _ _ e2 (ix2 t n)),
    fun j g d => fin_of_abs _ (Host.reduce_andi_all _ _ _ _ _ e3 (ix4 (0 : Fin 1) j g d))⟩

end

/-- The scale is finite. -/
theorem scale_fin : Fin' (Ideal.ofBits .f32 0x3DB504F3#32) := by
  simp [Ideal.ofBits, Ideal.ieee]
  exact ⟨_, rfl⟩

end Cert.Xchg

end
-- ==== Proof.Sum.lean ====
/-
  The exchange over the reals: after its six steps every device's result buffer holds, at every index, the sum over the
  eight devices of what they started from.
-/
module

public import proofs.«01_k».proof.Proof.Contents
public import Idealize.ShloMosaic.Lib.Pointwise

@[expose] public section

set_option maxRecDepth 16384

noncomputable section

namespace Cert.Xchg

open Cert.KernelIdeal Cert.KernelIdeal.Gen

open Idealize.ShloMosaic
open Idealize.ShloMosaic.TcCoe
open Idealize.SL.Sem

/-! ## Blocks of rows -/

/-- A block of rows is embedded row by row, behind its first row. -/
theorem emb_row {R : ℕ} (o : Fin 3 → ℕ) (h : ∀ a, o a + (![1, R, 1024] : Fin 3 → ℕ) a ≤ S1x1024x1024.size a) (i : Fin R) (n : Fin 1024)
    (y : S1x1024x1024.Idx) (h0 : o 0 = 0) (h1 : (y 1).val = o 1 + i.val) (h2 : o 2 = 0) (hn : (y 2).val = n.val) :
    (Rect.unit (s := S1x1024x1024) o ![1, R, 1024] h).emb (ix3 0 i n) = y := by
  funext a
  apply Fin.ext
  have hy : (y 0).val = 0 := by have : (y 0).val < 1 := (y 0).isLt; omega
  match a with
  | ⟨0, _⟩ => show o 0 + 1 * 0 = (y 0).val; omega
  | ⟨1, _⟩ => show o 1 + 1 * i.val = (y 1).val; omega
  | ⟨2, _⟩ => show o 2 + 1 * n.val = (y 2).val; omega

/-- A store of a block of rows is read back inside the block, and leaves the rest. -/
theorem put_in {F : FTy → Type} [FloatOps F] (r : Rect S1x1024x1024) (f : OutB F) (w : r.shape.Idx → Elt F .f32) (x : r.shape.Idx) :
    oM.view.writes (Elt F) f [⟨r, w⟩] (r.emb x) = w x := by
  rw [View.writes_singleton]
  exact View.write_emb_of_mem (v := oM.view.slice r) f w (Finset.mem_univ x)
theorem put_out {F : FTy → Type} [FloatOps F] {R : ℕ} (o : Fin 3 → ℕ)
    (h : ∀ a, o a + (![1, R, 1024] : Fin 3 → ℕ) a ≤ S1x1024x1024.size a) (f : OutB F)
    (w : (Rect.unit (s := S1x1024x1024) o ![1, R, 1024] h).shape.Idx → Elt F .f32) (y : S1x1024x1024.Idx)
    (hy : ¬ (o 1 ≤ (y 1).val ∧ (y 1).val < o 1 + R)) :
    oM.view.writes (Elt F) f [⟨Rect.unit (s := S1x1024x1024) o ![1, R, 1024] h, w⟩] y = f y := by
  rw [View.writes_singleton]
  refine View.write_of_not_mem (v := oM.view.slice _) f w _ ?_
  intro hm
  obtain ⟨x, -, hx⟩ := Finset.mem_map.mp hm
  apply hy
  have e : o 1 + 1 * (x 1).val = (y 1).val := congrArg (fun z : S1x1024x1024.Idx => (z 1).val) hx
  have hlt : (x 1).val < R := (x 1).isLt
  omega

/-- The contents of a result buffer over the reals. -/
abbrev OutI : Type := S1x1024x1024.Idx → EReal

section
variable {R : ℕ} (o o' : Fin 3 → ℕ) (h : ∀ a, o a + (![1, R, 1024] : Fin 3 → ℕ) a ≤ S1x1024x1024.size a)
  (h' : ∀ a, o' a + (![1, R, 1024] : Fin 3 → ℕ) a ≤ S1x1024x1024.size a)

/-- A step of the first half, inside the block: the two devices' rows are added. -/
theorem add_step (f g : OutI) (w : (Rect.unit (s := S1x1024x1024) o ![1, R, 1024] h).shape.Idx → EReal)
    (hw : ∀ (i : Fin R) (n : Fin 1024), w (ix3 0 i n) = f ((Rect.unit (s := S1x1024x1024) o ![1, R, 1024] h).emb (ix3 0 i n))
      + g ((Rect.unit (s := S1x1024x1024) o' ![1, R, 1024] h').emb (ix3 0 i n)))
    (z : o 0 = 0 ∧ o 2 = 0 ∧ o' 0 = 0 ∧ o' 2 = 0 ∧ o' 1 = o 1) (y : S1x1024x1024.Idx) (hy : o 1 ≤ (y 1).val ∧ (y 1).val < o 1 + R) :
    oM.view.writes (Elt Ideal) f [⟨Rect.unit (s := S1x1024x1024) o ![1, R, 1024] h, w⟩] y = f y + g y := by
  have e := emb_row o h ⟨(y 1).val - o 1, by omega⟩ (y 2) y z.1 (by show (y 1).val = o 1 + ((y 1).val - o 1); omega) z.2.1 rfl
  have e' := emb_row o' h' ⟨(y 1).val - o 1, by omega⟩ (y 2) y z.2.2.1 (by show (y 1).val = o' 1 + ((y 1).val - o 1); omega) z.2.2.2.1 rfl
  have k := hw ⟨(y 1).val - o 1, by omega⟩ (y 2)
  rw [e, e'] at k
  rw [← k]
  conv_lhs => rw [← e]
  exact put_in (F := Ideal) (Rect.unit (s := S1x1024x1024) o ![1, R, 1024] h) f w _

/-- A step of the second half, inside the block: the other device's rows are taken. -/
theorem copy_step (f g : OutI) (w : (Rect.unit (s := S1x1024x1024) o ![1, R, 1024] h).shape.Idx → EReal)
    (hw : ∀ (i : Fin R) (n : Fin 1024), w (ix3 0 i n) = g ((Rect.unit (s := S1x1024x1024) o' ![1, R, 1024] h').emb (ix3 0 i n)))
    (z : o 0 = 0 ∧ o 2 = 0 ∧ o' 0 = 0 ∧ o' 2 = 0 ∧ o' 1 = o 1) (y : S1x1024x1024.Idx) (hy : o 1 ≤ (y 1).val ∧ (y 1).val < o 1 + R) :
    oM.view.writes (Elt Ideal) f [⟨Rect.unit (s := S1x1024x1024) o ![1, R, 1024] h, w⟩] y = g y := by
  have e := emb_row o h ⟨(y 1).val - o 1, by omega⟩ (y 2) y z.1 (by show (y 1).val = o 1 + ((y 1).val - o 1); omega) z.2.1 rfl
  have e' := emb_row o' h' ⟨(y 1).val - o 1, by omega⟩ (y 2) y z.2.2.1 (by show (y 1).val = o' 1 + ((y 1).val - o 1); omega) z.2.2.2.1 rfl
  have k := hw ⟨(y 1).val - o 1, by omega⟩ (y 2)
  rw [e'] at k
  rw [← k]
  conv_lhs => rw [← e]
  exact put_in (F := Ideal) (Rect.unit (s := S1x1024x1024) o ![1, R, 1024] h) f w _
end

/-! ## The six steps at an index -/

theorem zeros0 (c : Dev nD) : k0_off3 c 0 = 0 ∧ k0_off3 c 2 = 0 ∧ k0_off2 (par 2 c) 0 = 0 ∧ k0_off2 (par 2 c) 2 = 0 ∧ k0_off2 (par 2 c) 1 = k0_off3 c 1 := by
  revert c; decide
theorem zeros1 (c : Dev nD) : k0_off5 c 0 = 0 ∧ k0_off5 c 2 = 0 ∧ k0_off4 (par 1 c) 0 = 0 ∧ k0_off4 (par 1 c) 2 = 0 ∧ k0_off4 (par 1 c) 1 = k0_off5 c 1 := by
  revert c; decide
theorem zeros2 (c : Dev nD) : k0_off7 c 0 = 0 ∧ k0_off7 c 2 = 0 ∧ k0_off6 (par 0 c) 0 = 0 ∧ k0_off6 (par 0 c) 2 = 0 ∧ k0_off6 (par 0 c) 1 = k0_off7 c 1 := by
  revert c; decide
theorem zeros3 (c : Dev nD) : k0_off8 c 0 = 0 ∧ k0_off8 c 2 = 0 ∧ k0_off7 (par 0 c) 0 = 0 ∧ k0_off7 (par 0 c) 2 = 0 ∧ k0_off7 (par 0 c) 1 = k0_off8 c 1 := by
  revert c; decide
theorem zeros4 (c : Dev nD) : k0_off10 c 0 = 0 ∧ k0_off10 c 2 = 0 ∧ k0_off9 (par 1 c) 0 = 0 ∧ k0_off9 (par 1 c) 2 = 0 ∧ k0_off9 (par 1 c) 1 = k0_off10 c 1 := by
  revert c; decide
theorem zeros5 (c : Dev nD) : k0_off12 c 0 = 0 ∧ k0_off12 c 2 = 0 ∧ k0_off11 (par 2 c) 0 = 0 ∧ k0_off11 (par 2 c) 2 = 0 ∧ k0_off11 (par 2 c) 1 = k0_off12 c 1 := by
  revert c; decide

variable (O : Dev nD → OutI) (c : Dev nD) (y : S1x1024x1024.Idx)

/-- Row `y` lies in the `n` rows from `o` on. -/
abbrev In (o n : ℕ) : Prop := o ≤ (y 1).val ∧ (y 1).val < o + n

/-- Step 0: inside the block that the device keeps, the two devices’ rows are added; outside nothing changes. -/
theorem next0_in (hy : In y (k0_off3 c 1) 512) : next0 (F := Ideal) O c y = O c y + O (par 2 c) y := by
  unfold next0
  refine add_step (k0_off3 c) (k0_off2 (par 2 c)) (k0_off3_inb c) (k0_off2_inb (par 2 c)) (O c) (O (par 2 c)) _ (fun i n => ?_) (zeros0 c) y hy
  unfold got0 snd0 k0_pay47 k0_pay46
  pointwise
  rfl
theorem next0_out (hy : ¬ In y (k0_off3 c 1) 512) : next0 (F := Ideal) O c y = O c y := by
  unfold next0
  exact put_out (F := Ideal) (R := 512) (k0_off3 c) (k0_off3_inb c) (O c) _ y hy

/-- Step 1: inside the block that the device keeps, the two devices’ rows are added; outside nothing changes. -/
theorem next1_in (hy : In y (k0_off5 c 1) 256) : next1 (F := Ideal) O c y = O c y + O (par 1 c) y := by
  unfold next1
  refine add_step (k0_off5 c) (k0_off4 (par 1 c)) (k0_off5_inb c) (k0_off4_inb (par 1 c)) (O c) (O (par 1 c)) _ (fun i n => ?_) (zeros1 c) y hy
  unfold got1 snd1 k0_pay49 k0_pay48
  pointwise
  rfl
theorem next1_out (hy : ¬ In y (k0_off5 c 1) 256) : next1 (F := Ideal) O c y = O c y := by
  unfold next1
  exact put_out (F := Ideal) (R := 256) (k0_off5 c) (k0_off5_inb c) (O c) _ y hy

/-- Step 2: inside the block that the device keeps, the two devices’ rows are added; outside nothing changes. -/
theorem next2_in (hy : In y (k0_off7 c 1) 128) : next2 (F := Ideal) O c y = O c y + O (par 0 c) y := by
  unfold next2
  refine add_step (k0_off7 c) (k0_off6 (par 0 c)) (k0_off7_inb c) (k0_off6_inb (par 0 c)) (O c) (O (par 0 c)) _ (fun i n => ?_) (zeros2 c) y hy
  unfold got2 snd2 k0_pay52 k0_pay51 k0_pay50
  pointwise
  rfl
theorem next2_out (hy : ¬ In y (k0_off7 c 1) 128) : next2 (F := Ideal) O c y = O c y := by
  unfold next2
  exact put_out (F := Ideal) (R := 128) (k0_off7 c) (k0_off7_inb c) (O c) _ y hy

/-- Step 3: inside the block that the device receives stand the partner’s rows; outside nothing changes. -/
theorem next3_in (hy : In y (k0_off8 c 1) 128) : next3 (F := Ideal) O c y = O (par 0 c) y := by
  unfold next3
  refine copy_step (k0_off8 c) (k0_off7 (par 0 c)) (k0_off8_inb c) (k0_off7_inb (par 0 c)) (O c) (O (par 0 c)) _ (fun i n => ?_) (zeros3 c) y hy
  unfold got3 snd3 k0_pay54 k0_pay53
  pointwise
  rfl
theorem next3_out (hy : ¬ In y (k0_off8 c 1) 128) : next3 (F := Ideal) O c y = O c y := by
  unfold next3
  exact put_out (F := Ideal) (R := 128) (k0_off8 c) (k0_off8_inb c) (O c) _ y hy

/-- Step 4: inside the block that the device receives stand the partner’s rows; outside nothing changes. -/
theorem next4_in (hy : In y (k0_off10 c 1) 256) : next4 (F := Ideal) O c y = O (par 1 c) y := by
  unfold next4
  refine copy_step (k0_off10 c) (k0_off9 (par 1 c)) (k0_off10_inb c) (k0_off9_inb (par 1 c)) (O c) (O (par 1 c)) _ (fun i n => ?_) (zeros4 c) y hy
  unfold got4 snd4 k0_pay56 k0_pay55
  pointwise
  rfl
theorem next4_out (hy : ¬ In y (k0_off10 c 1) 256) : next4 (F := Ideal) O c y = O c y := by
  unfold next4
  exact put_out (F := Ideal) (R := 256) (k0_off10 c) (k0_off10_inb c) (O c) _ y hy

/-- Step 5: inside the block that the device receives stand the partner’s rows; outside nothing changes. -/
theorem next5_in (hy : In y (k0_off12 c 1) 512) : next5 (F := Ideal) O c y = O (par 2 c) y := by
  unfold next5
  refine copy_step (k0_off12 c) (k0_off11 (par 2 c)) (k0_off12_inb c) (k0_off11_inb (par 2 c)) (O c) (O (par 2 c)) _ (fun i n => ?_) (zeros5 c) y hy
  unfold got5 snd5 k0_pay1 k0_pay57
  pointwise
  rfl
theorem next5_out (hy : ¬ In y (k0_off12 c 1) 512) : next5 (F := Ideal) O c y = O c y := by
  unfold next5
  exact put_out (F := Ideal) (R := 512) (k0_off12 c) (k0_off12_inb c) (O c) _ y hy

/-! ## The sums -/

/-- Where the blocks of the steps lie: each kept block in the one before, and the same for a device and its later partners. -/
theorem keep_nest (c : Dev nD) : (k0_off3 c 1 ≤ k0_off5 c 1 ∧ k0_off5 c 1 + 256 ≤ k0_off3 c 1 + 512) ∧ (k0_off5 c 1 ≤ k0_off7 c 1 ∧ k0_off7 c 1 + 128 ≤ k0_off5 c 1 + 256) := by
  revert c; decide
theorem keep_par (c : Dev nD) : k0_off3 (par 1 c) 1 = k0_off3 c 1 ∧ k0_off3 (par 0 c) 1 = k0_off3 c 1 ∧ k0_off5 (par 0 c) 1 = k0_off5 c 1 := by
  revert c; decide
/-- The block a device has beside the one it receives are together the next step's block. -/
theorem take3 (c : Dev nD) : (k0_off9 c 1 = k0_off7 c 1 ∧ k0_off8 c 1 = k0_off7 c 1 + 128) ∨ (k0_off9 c 1 = k0_off8 c 1 ∧ k0_off7 c 1 = k0_off8 c 1 + 128) := by
  revert c; decide
theorem take4 (c : Dev nD) : (k0_off11 c 1 = k0_off9 c 1 ∧ k0_off10 c 1 = k0_off9 c 1 + 256) ∨ (k0_off11 c 1 = k0_off10 c 1 ∧ k0_off9 c 1 = k0_off10 c 1 + 256) := by
  revert c; decide
theorem take5 (c : Dev nD) : (k0_off11 c 1 = 0 ∧ k0_off12 c 1 = 512) ∨ (k0_off12 c 1 = 0 ∧ k0_off11 c 1 = 512) := by
  revert c; decide

/-- From any device, the eight that its partners reach are all of them. -/
theorem all_reached (f : Dev nD → EReal) (c : Dev nD) :
    ((f c + f (par 2 c)) + (f (par 1 c) + f (par 2 (par 1 c)))) + ((f (par 0 c) + f (par 2 (par 0 c))) + (f (par 1 (par 0 c)) + f (par 2 (par 1 (par 0 c)))))
      = ∑ d, f d := by
  have h : ∀ c : Dev nD, ({c, par 2 c, par 1 c, par 2 (par 1 c), par 0 c, par 2 (par 0 c), par 1 (par 0 c), par 2 (par 1 (par 0 c))} : Multiset (Dev nD)) = Finset.univ.val := by decide
  rw [Finset.sum, ← h c]
  simp only [Multiset.insert_eq_cons, Multiset.map_cons, Multiset.sum_cons, Multiset.map_singleton, Multiset.sum_singleton]
  abel

theorem out1_in (hy : In y (k0_off3 c 1) 512) : out1 (F := Ideal) O c y = O c y + O (par 2 c) y := next0_in O c y hy
theorem out2_in (hy : In y (k0_off5 c 1) 256) :
    out2 (F := Ideal) O c y = (O c y + O (par 2 c) y) + (O (par 1 c) y + O (par 2 (par 1 c)) y) := by
  have hn := keep_nest c; have hp := keep_par c
  refine (next1_in (out1 (F := Ideal) O) c y hy).trans ?_
  rw [out1_in O c y (by unfold In at *; omega), out1_in O (par 1 c) y (by unfold In at *; omega)]
/-- After the first half a device has the whole sum in its block. -/
theorem out3_in (hy : In y (k0_off7 c 1) 128) : out3 (F := Ideal) O c y = ∑ d, O d y := by
  have hn := keep_nest c; have hp := keep_par c
  refine (next2_in (out2 (F := Ideal) O) c y hy).trans ?_
  rw [out2_in O c y (by unfold In at *; omega), out2_in O (par 0 c) y (by unfold In at *; omega)]
  exact all_reached (fun d => O d y) c
theorem out4_in (hy : In y (k0_off9 c 1) 256) : out4 (F := Ideal) O c y = ∑ d, O d y := by
  have ht := take3 c; have hz := zeros3 c
  by_cases h : In y (k0_off8 c 1) 128
  · exact (next3_in (out3 (F := Ideal) O) c y h).trans (out3_in O (par 0 c) y (by unfold In at *; omega))
  · exact (next3_out (out3 (F := Ideal) O) c y h).trans (out3_in O c y (by unfold In at *; omega))
theorem out5_in (hy : In y (k0_off11 c 1) 512) : out5 (F := Ideal) O c y = ∑ d, O d y := by
  have ht := take4 c; have hz := zeros4 c
  by_cases h : In y (k0_off10 c 1) 256
  · exact (next4_in (out4 (F := Ideal) O) c y h).trans (out4_in O (par 1 c) y (by unfold In at *; omega))
  · exact (next4_out (out4 (F := Ideal) O) c y h).trans (out4_in O c y (by unfold In at *; omega))
/-- After all six steps every device has the sum of the eight buffers. -/
theorem out6_sum : out6 (F := Ideal) O c y = ∑ d, O d y := by
  have ht := take5 c; have hz := zeros5 c
  have hlt : (y 1).val < 1024 := (y 1).isLt
  by_cases h : In y (k0_off12 c 1) 512
  · exact (next5_in (out5 (F := Ideal) O) c y h).trans (out5_in O (par 2 c) y (by unfold In at *; omega))
  · exact (next5_out (out5 (F := Ideal) O) c y h).trans (out5_in O c y (by unfold In at *; omega))

end Cert.Xchg

end
-- ==== Proof.Result.lean ====
/-
  The kernel's result array: every device's ends at the sum, over the devices, of their products.
-/
module

public import proofs.«01_k».proof.Proof.Frames
public import proofs.«01_k».proof.Proof.Sum

@[expose] public section

set_option maxRecDepth 16384

noncomputable section

namespace Cert.Xchg

open Cert.KernelIdeal Cert.KernelIdeal.Gen

open Idealize.ShloMosaic
open Idealize.ShloMosaic.TcCoe
open Idealize.SL.Sem
open Idealize.ShloMosaic.Pipeline (Dat)

section
variable {F : FTy → Type} [FloatOps F] (m : (ℓ : Loc nD τ sig) → Buf (Elt F) ℓ)

/-- An index of the result lies in the one block at its own coordinates. -/
theorem out_emb (t : Fin cfg0.N) (y : S1x1024x1024.Idx) : ((cfg0.win (3 : Fin 4)).blk t).view.emb y = y := by
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The one block read out of an array is the array. -/
theorem out_read (t : Fin cfg0.N) (G : S1x1024x1024.Idx → Elt F .f32) : ((cfg0.win (3 : Fin 4)).blk t).view.read (Elt F) G = G := by
  funext y
  rw [View.read_apply]
  exact congrArg G (out_emb t y)

/-- The result array ends at what the body leaves in its block. -/
theorem result_array (c : Dev nD) : (dats m 0 c).arrAt (3 : Fin 4) cfg0.N = out6 (part m) c := by
  have hf (t : Fin cfg0.N) : (dats m 0 c).flushed (3 : Fin 4) t = out6 (part m) c := after3 m c t
  generalize out6 (part m) c = G at hf
  refine (dats m 0 c).arrAt_eq_of_cover (3 : Fin 4) G (fun t _ => (hf t).trans (out_read t G).symm) fun i => ⟨t0_0, rfl, ?_⟩
  have := ((cfg0.win (3 : Fin 4)).blk t0_0).view.emb_mem_set i
  rwa [out_emb t0_0 i] at this
end
end Cert.Xchg

end
-- ==== Proof.Ref.lean ====
/-
  The reference's result over the extended reals, piece by piece: the masked scores, their row maxima, the weights, and the
  contraction with the output matrix.
-/
module

public import proofs.«01_k».proof.Proof.Gen.ReferenceIdeal.Run
public import Idealize.ShloMosaic.Lib.Pointwise

@[expose] public section

set_option maxRecDepth 16384

noncomputable section

namespace Cert.XchgRef

open Cert.ReferenceIdeal Cert.ReferenceIdeal.Gen

open Idealize.ShloMosaic
open Idealize.ShloMosaic.TcCoe

variable {F : FTy → Type} [FloatOps F]

/-- The block of each position. -/
def blocks : IVec S1024 32 :=
  select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))

/-- The mask: a row attends to the keys of its own block and of those before it. -/
def maskR : IVec S1024x1024 1 :=
  cmpi .sle (broadcastInDim S1024x1024 ![0, 1] bcast_S1x1024_S1024x1024_0_1 (broadcastInDim S1x1024 ![1] bcast_S1024_S1x1024_1 blocks)) (broadcastInDim S1024x1024 ![0, 1] bcast_S1024x1_S1024x1024_0_1 (broadcastInDim S1024x1 ![0] bcast_S1024_S1024x1_0 blocks))

/-- Whether a row attends to any key. -/
def keepR : IVec S1024 1 := Host.reduce IntOp.ori maskR (constantI S_ 1 0#1) reducesTo_S1024x1024_S1024_d1 h_S_

/-- The masked scores. -/
def scoresR (x : FVec F S1x1024x1024 .f32) (w : FVec F S1024x8192 .f32) (k : FVec F S1x1024x64x128 .f32) : FVec F S1x64x1024x1024 .f32 :=
  select (broadcastInDim S1x64x1024x1024 ![0, 1, 2, 3] bcast_S1x1x1024x1024_S1x64x1024x1024_0_1_2_3 (broadcastInDim S1x1x1024x1024 ![2, 3] bcast_S1024x1024_S1x1x1024x1024_2_3 maskR))
    (mulf (Host.dotGeneral dot_S1x1024x64x128_S1x1024x64x128_S1x64x1024x1024_3_3_1_1_02_02 none (shapeCast _ (Host.dotGeneral dot_S1x1024x1024_S1024x8192_S1x1024x8192_2_0_01_1_n_n none x w) shapeCasts_S1x1024x8192_S1x1024x64x128) k) (broadcastInDim S1x64x1024x1024 ![] bcast_S_S1x64x1024x1024 (constant S_ .f32 0x3DB504F3#32)))
    (broadcastInDim S1x64x1024x1024 ![] bcast_S_S1x64x1024x1024 (id (constant S_ .f32 0xFF800000#32)))

/-- The greatest score of each row. -/
def maxR (s : FVec F S1x64x1024x1024 .f32) : FVec F S1x64x1024 .f32 :=
  Host.reduce FloatOps.maximumf s (constant S_ .f32 0xFF800000#32) reducesTo_S1x64x1024x1024_S1x64x1024_d3 h_S_

/-- The exponentials of the scores less their row's greatest. -/
def expR (s : FVec F S1x64x1024x1024 .f32) (g : FVec F S1x64x1024 .f32) : FVec F S1x64x1024x1024 .f32 :=
  Host.exp (subf s (broadcastInDim S1x64x1024x1024 ![0, 1, 2, 3] bcast_S1x64x1024x1_S1x64x1024x1024_0_1_2_3 (broadcastInDim S1x64x1024x1 ![0, 1, 2] bcast_S1x64x1024_S1x64x1024x1_0_1_2 g)))

/-- The weights: the exponentials divided by their row's sum. -/
def weightsR (keep : IVec S1024 1) (e : FVec F S1x64x1024x1024 .f32) : FVec F S1x64x1024x1024 .f32 :=
  select (broadcastInDim S1x64x1024x1024 ![0, 1, 2, 3] bcast_S1x1x1024x1_S1x64x1024x1024_0_1_2_3 (broadcastInDim S1x1x1024x1 ![2] bcast_S1024_S1x1x1024x1_2 keep))
    (Host.divf e (broadcastInDim S1x64x1024x1024 ![0, 1, 2, 3] bcast_S1x64x1024x1_S1x64x1024x1024_0_1_2_3 (select (broadcastInDim S1x64x1024x1 ![0, 1, 2, 3] bcast_S1x1x1024x1_S1x64x1024x1_0_1_2_3 (broadcastInDim S1x1x1024x1 ![2] bcast_S1024_S1x1x1024x1_2 keep))
      (broadcastInDim S1x64x1024x1 ![0, 1, 2] bcast_S1x64x1024_S1x64x1024x1_0_1_2 (Host.reduceAdd e (constant S_ .f32 0x00000000#32) reducesTo_S1x64x1024x1024_S1x64x1024_d3 h_S_))
      (broadcastInDim S1x64x1024x1 ![] bcast_S_S1x64x1024x1 (id (constant S_ .f32 0x3F800000#32))))))
    (broadcastInDim S1x64x1024x1024 ![] bcast_S_S1x64x1024x1024 (id (constant S_ .f32 0x00000000#32)))

/-- The heads' results. -/
def headsR (v : FVec F S1x1024x64x128 .f32) (w : FVec F S1x64x1024x1024 .f32) : FVec F S1x64x128x1024 .f32 :=
  Host.dotGeneral dot_S1x1024x64x128_S1x64x1024x1024_S1x64x128x1024_1_3_3_2_02_01 none v w

/-- The heads' results side by side, against the output matrix. -/
def outR (h : FVec F S1x64x128x1024 .f32) (o : FVec F S8192x1024 .f32) : FVec F S1x1024x1024 .f32 :=
  Host.dotGeneral dot_S1x1024x8192_S8192x1024_S1x1024x1024_2_0_01_1_n_n none (shapeCast _ (transpose S1x1024x64x128 [0, 3, 1, 2] h transposes_S1x64x128x1024_S1x1024x64x128_0_3_1_2) shapeCasts_S1x1024x64x128_S1x1024x8192) o

theorem res_eq (m : (ℓ : Loc nD τ sig) → Buf (Elt F) ℓ) (c : Dev nD) :
    Value.res_main_v33 m c = outR (headsR (m ((c : Thread nD τ).loc main_arg3))
      (weightsR keepR (expR (scoresR (m ((c : Thread nD τ).loc main_arg0)) (m ((c : Thread nD τ).loc main_arg1)) (m ((c : Thread nD τ).loc main_arg2)))
        (maxR (scoresR (m ((c : Thread nD τ).loc main_arg0)) (m ((c : Thread nD τ).loc main_arg1)) (m ((c : Thread nD τ).loc main_arg2)))))))
      (m ((c : Thread nD τ).loc main_arg4)) := rfl

/-- Division by 64 rounded down, as the reference computes it of a word. -/
abbrev blockW (x : BitVec 32) : BitVec 32 :=
  Scalar.select (IntOp.andi
      (IntOp.cmpi .ne (if x = 0 then (0 : BitVec 32) else if x.msb = true then -1 else 1) (if (64#32 : BitVec 32) = 0 then (0 : BitVec 32) else if (64#32 : BitVec 32).msb = true then -1 else 1))
      (IntOp.cmpi .ne (IntOp.remsi .host x 64#32) 0#32))
    (IntOp.subi (IntOp.divsi .host x 64#32) 1#32) (IntOp.divsi .host x 64#32)

theorem blockW_fin : ∀ n : Fin 1024, blockW (BitVec.ofNat 32 n.1) = BitVec.ofNat 32 (n.1 / 64) := by
  decide +kernel

theorem blocks_at (i : Fin 1024) : blocks (ix1 i) = BitVec.ofNat 32 (i.1 / 64) := by
  unfold blocks
  pointwise
  exact blockW_fin i

theorem sle_fin : ∀ a b : Fin 16, IntOp.cmpi .sle (BitVec.ofNat 32 a.1) (BitVec.ofNat 32 b.1) = 1#1 ↔ a.1 ≤ b.1 := by
  decide +kernel

theorem maskR_at (i j : Fin 1024) : maskR (ix2 i j) = 1#1 ↔ j.1 / 64 ≤ i.1 / 64 := by
  unfold maskR
  pointwise
  rw [blocks_at, blocks_at]
  exact sle_fin ⟨j.1 / 64, by omega⟩ ⟨i.1 / 64, by omega⟩

/-- Every row attends to its own key. -/
theorem keepR_at (i : Fin 1024) : keepR (ix1 i) = 1#1 := by
  unfold keepR
  pointwise
  have hb : ∀ a b : BitVec 1, IntOp.ori a b = 1#1 ↔ a = 1#1 ∨ b = 1#1 := by decide
  have key : ∀ t : Finset (Fin 1024), i ∈ t → Finset.fold IntOp.ori (0#1) (fun x => maskR (ix2 i x)) t = 1#1 := by
    intro t hi
    rw [← Finset.insert_erase hi, Finset.fold_insert (Finset.notMem_erase i t), hb]
    exact .inl ((maskR_at i i).mpr le_rfl)
  exact key _ (Finset.mem_univ i)

/-- The score of row `i` against key `j` in head `g`. -/
def score (x : Fin 1024 → Fin 1024 → EReal) (w : Fin 1024 → Fin 8192 → EReal) (k : Fin 1024 → Fin 64 → Fin 128 → EReal) (g : Fin 64) (i j : Fin 1024) : EReal :=
  (∑ d : Fin 128, (∑ t : Fin 1024, x i t * w t ⟨g.1 * 128 + d.1, by omega⟩) * k j g d) * Ideal.ofBits .f32 0x3DB504F3#32

theorem scoresR_at (x : FVec Ideal S1x1024x1024 .f32) (w : FVec Ideal S1024x8192 .f32) (k : FVec Ideal S1x1024x64x128 .f32) (g : Fin 64) (i j : Fin 1024) :
    scoresR x w k (ix4 (0 : Fin 1) g i j) = if j.1 / 64 ≤ i.1 / 64 then
      score (fun a b => x (ix3 (0 : Fin 1) a b)) (fun a b => w (ix2 a b)) (fun a b d => k (ix4 (0 : Fin 1) a b d)) g i j else ⊥ := by
  unfold scoresR
  pointwise
  unfold score
  have hbot : (id (constant S_ FTy.f32 4286578688#32) ix0 : Ideal .f32) = (⊥ : EReal) := by
    show Ideal.ofBits .f32 4286578688#32 = ⊥
    simp [Ideal.ofBits, Ideal.ieee]
  rw [hbot]
  exact if_congr (maskR_at i j) rfl rfl

theorem maxR_at (s : FVec Ideal S1x64x1024x1024 .f32) (g : Fin 64) (i : Fin 1024) :
    maxR s (ix3 (0 : Fin 1) g i) = Finset.fold max (⊥ : EReal) (fun j : Fin 1024 => s (ix4 (0 : Fin 1) g i j)) Finset.univ := by
  unfold maxR
  pointwise
  rw [show Ideal.ofBits .f32 4286578688#32 = ⊥ by simp [Ideal.ofBits, Ideal.ieee]]

theorem expR_at (s : FVec Ideal S1x64x1024x1024 .f32) (mx : FVec Ideal S1x64x1024 .f32) (g : Fin 64) (i j : Fin 1024) :
    expR s mx (ix4 (0 : Fin 1) g i j) = Ideal.exp (s (ix4 (0 : Fin 1) g i j) - mx (ix3 (0 : Fin 1) g i)) := by
  unfold expR
  pointwise

theorem weightsR_at (e : FVec Ideal S1x64x1024x1024 .f32) (g : Fin 64) (i j : Fin 1024) :
    weightsR keepR e (ix4 (0 : Fin 1) g i j) = Ideal.div (e (ix4 (0 : Fin 1) g i j)) (∑ l : Fin 1024, e (ix4 (0 : Fin 1) g i l)) := by
  unfold weightsR
  pointwise
  rw [keepR_at]
  rfl

theorem headsR_at (v : FVec Ideal S1x1024x64x128 .f32) (w : FVec Ideal S1x64x1024x1024 .f32) (g : Fin 64) (d : Fin 128) (i : Fin 1024) :
    headsR v w (ix4 (0 : Fin 1) g d i) = ∑ j : Fin 1024, v (ix4 (0 : Fin 1) j g d) * w (ix4 (0 : Fin 1) g i j) := by
  unfold headsR
  pointwise

theorem outR_at (h : FVec Ideal S1x64x128x1024 .f32) (o : FVec Ideal S8192x1024 .f32) (i n : Fin 1024) :
    outR h o (ix3 (0 : Fin 1) i n) = ∑ x : Fin 8192, h (ix4 (0 : Fin 1) (⟨x.1 / 128, by omega⟩ : Fin 64) (⟨x.1 % 128, by omega⟩ : Fin 128) i) * o (ix2 x n) := by
  unfold outR
  pointwise

end Cert.XchgRef
-- ==== Proof.Eq.lean ====
/-
  The equation: over the extended reals a device's heads are the reference's, and the sum over the devices of their
  products with their rows of the output matrix is the product with the whole of it.
-/
module

public import proofs.«01_k».proof.Proof.Ctx
public import proofs.«01_k».proof.Proof.PartVal
public import proofs.«01_k».proof.Proof.Ref
public import proofs.«01_k».proof.Proof.Soft
public import Mathlib.Algebra.BigOperators.Fin

@[expose] public section

set_option maxRecDepth 16384

noncomputable section

namespace Cert.Xchg

open Idealize.ShloMosaic
open Cert.Soft (Fin')

/-- The scale of the scores. -/
abbrev scale : EReal := Ideal.ofBits .f32 0x3DB504F3#32

variable (x : Fin 1024 → Fin 1024 → EReal) (w : Fin 1024 → Fin 8192 → EReal) (k v : Fin 1024 → Fin 64 → Fin 128 → EReal)

/-- The column `n` of device `c`'s block, among all columns. -/
abbrev colOf (c : Fin 8) (n : Fin 1024) : Fin 8192 := ⟨1024 * c.val + n.val, by omega⟩

/-- The head `h` of device `c`, among all heads. -/
abbrev hdOf (c : Fin 8) (h : Fin 8) : Fin 64 := ⟨8 * c.val + h.val, by omega⟩

/-- A device's scaled queries. -/
def qOf (c : Fin 8) (i n : Fin 1024) : EReal := (∑ t : Fin 1024, x i t * w t (colOf c n)) * scale

/-- The reference's masked score. -/
def ms (g : Fin 64) (i j : Fin 1024) : EReal := if j.1 / 64 ≤ i.1 / 64 then Cert.XchgRef.score x w k g i j else ⊥

/-- The reference's normalised weight. -/
def nw (g : Fin 64) (i j : Fin 1024) : EReal :=
  Ideal.div (Ideal.exp (ms x w k g i j - Finset.fold max (⊥ : EReal) (fun l => ms x w k g i l) Finset.univ))
    (∑ l, Ideal.exp (ms x w k g i l - Finset.fold max (⊥ : EReal) (fun l => ms x w k g i l) Finset.univ))

/-- A sum over all columns is the sum over the devices of the sums over their columns. -/
theorem sum_cols (f : Fin 8192 → EReal) : ∑ n : Fin 8192, f n = ∑ c : Fin 8, ∑ t : Fin 1024, f (colOf c t) := by
  rw [← Fintype.sum_prod_type', ← (finProdFinEquiv (m := 8) (n := 1024)).sum_comp f]
  refine Finset.sum_congr rfl fun p _ => congrArg f (Fin.ext ?_)
  show p.2.1 + 1024 * p.1.1 = 1024 * p.1.1 + p.2.1
  omega

section
variable (hx : ∀ i t, Fin' (x i t)) (hw : ∀ t n, Fin' (w t n)) (hk : ∀ j g d, Fin' (k j g d)) (hs : Fin' scale)
include hx hw hk hs

/-- The reference's scores are finite. -/
theorem score_fin (g : Fin 64) (i j : Fin 1024) : Fin' (Cert.XchgRef.score x w k g i j) :=
  (Fin'.sum _ _ fun d => (Fin'.sum _ _ fun t => (hx i t).mul (hw t _)).mul (hk j g d)).mul hs

/-- Scaling the queries scales the scores. -/
theorem score_scaled (c h : Fin 8) (i j : Fin 1024) :
    (∑ t : Fin 128, qOf x w c i ⟨128 * h.1 + t.1, by omega⟩ * k j (hdOf c h) t) = Cert.XchgRef.score x w k (hdOf c h) i j := by
  unfold Cert.XchgRef.score
  rw [Cert.Soft.sum_mul_fin _ _ (fun d => (Fin'.sum _ _ fun t => (hx i t).mul (hw t _)).mul (hk j _ d)) _ hs]
  refine Finset.sum_congr rfl fun d _ => ?_
  unfold qOf
  rw [mul_right_comm]
  have e : colOf c ⟨128 * h.1 + d.1, by omega⟩ = (⟨(hdOf c h).1 * 128 + d.1, by have := h.isLt; have := c.isLt; simp only; omega⟩ : Fin 8192) := Fin.ext (by simp only; omega)
  rw [e]

/-- A device's head is the reference's. -/
theorem head_eq (c h : Fin 8) (i : Fin 1024) (d : Fin 128) :
    headV (qOf x w c) (fun j h d => k j (hdOf c h) d) (fun j h d => v j (hdOf c h) d) h i d
      = ∑ j, v j (hdOf c h) d * nw x w k (hdOf c h) i j := by
  have hwt (j : Fin 1024) : wt (qOf x w c) (fun j h d => k j (hdOf c h) d) h i j
      = if j.1 / 64 ≤ i.1 / 64 then Ideal.exp (Cert.XchgRef.score x w k (hdOf c h) i j) else 0 := by
    unfold wt
    exact if_congr Iff.rfl (congrArg Ideal.exp (score_scaled x w k hx hw hk hs c h i j)) rfl
  unfold headV
  simp only [hwt]
  exact Cert.Soft.head (fun j : Fin 1024 => j.1 / 64 ≤ i.1 / 64) (fun j => Cert.XchgRef.score x w k (hdOf c h) i j)
    (fun j _ => score_fin x w k hx hw hk hs _ i j) (fun j => v j (hdOf c h) d) i (le_refl _) _ rfl

/-- The devices' products sum to the reference's. -/
theorem parts_eq (o : Fin 8192 → EReal) (i : Fin 1024) :
    ∑ c : Fin 8, ∑ t : Fin 1024, ctxV (qOf x w c) (fun j h d => k j (hdOf c h) d) (fun j h d => v j (hdOf c h) d) i t * o (colOf c t)
      = ∑ n : Fin 8192, (∑ j, v j ⟨n.1 / 128, by omega⟩ ⟨n.1 % 128, by omega⟩ * nw x w k ⟨n.1 / 128, by omega⟩ i j) * o n := by
  rw [sum_cols]
  refine Finset.sum_congr rfl fun c _ => Finset.sum_congr rfl fun t _ => ?_
  congr 1
  unfold ctxV
  rw [head_eq x w k v hx hw hk hs]
  have e1 : hdOf c ⟨t.1 / 128, by omega⟩ = (⟨(colOf c t).1 / 128, by have := (colOf c t).isLt; omega⟩ : Fin 64) := Fin.ext (by simp only; omega)
  have e2 : (⟨t.1 % 128, by omega⟩ : Fin 128) = ⟨(colOf c t).1 % 128, by omega⟩ := Fin.ext (by simp only; omega)
  rw [e1, e2]
end

section
variable (X : FVec Ideal Cert.ReferenceIdeal.S1x1024x1024 .f32) (W : FVec Ideal Cert.ReferenceIdeal.S1024x8192 .f32)
  (K V : FVec Ideal Cert.ReferenceIdeal.S1x1024x64x128 .f32) (O : FVec Ideal Cert.ReferenceIdeal.S8192x1024 .f32)

/-- The reference's weights over the scores of its arguments. -/
def weightsOf : FVec Ideal Cert.ReferenceIdeal.S1x64x1024x1024 .f32 :=
  Cert.XchgRef.weightsR Cert.XchgRef.keepR (Cert.XchgRef.expR (Cert.XchgRef.scoresR X W K) (Cert.XchgRef.maxR (Cert.XchgRef.scoresR X W K)))

/-- A weight of the reference is the normalised weight. -/
theorem weightsOf_at (g : Fin 64) (i j : Fin 1024) : weightsOf X W K (ix4 (0 : Fin 1) g i j)
    = nw (fun a b => X (ix3 (0 : Fin 1) a b)) (fun a b => W (ix2 a b)) (fun a b d => K (ix4 (0 : Fin 1) a b d)) g i j := by
  unfold weightsOf
  generalize hS : Cert.XchgRef.scoresR X W K = S
  have hs (l : Fin 1024) : S (ix4 (0 : Fin 1) g i l) = ms (fun a b => X (ix3 (0 : Fin 1) a b)) (fun a b => W (ix2 a b)) (fun a b d => K (ix4 (0 : Fin 1) a b d)) g i l :=
    (congrFun hS _).symm.trans (Cert.XchgRef.scoresR_at X W K g i l)
  rw [Cert.XchgRef.weightsR_at]
  simp only [Cert.XchgRef.expR_at, Cert.XchgRef.maxR_at, hs]
  unfold nw
  rfl

/-- The reference's result, at an index. -/
theorem ref_at (i n : Fin 1024) :
    Cert.XchgRef.outR (Cert.XchgRef.headsR V (weightsOf X W K)) O (ix3 (0 : Fin 1) i n)
      = ∑ y : Fin 8192, (∑ j, V (ix4 (0 : Fin 1) j (⟨y.1 / 128, by omega⟩ : Fin 64) (⟨y.1 % 128, by omega⟩ : Fin 128))
          * nw (fun a b => X (ix3 (0 : Fin 1) a b)) (fun a b => W (ix2 a b)) (fun a b d => K (ix4 (0 : Fin 1) a b d)) ⟨y.1 / 128, by omega⟩ i j) * O (ix2 y n) := by
  refine (Cert.XchgRef.outR_at _ O i n).trans (Finset.sum_congr rfl fun y _ => congrArg (· * O (ix2 y n)) ?_)
  refine (Cert.XchgRef.headsR_at V _ _ _ i).trans (Finset.sum_congr rfl fun j _ => ?_)
  rw [weightsOf_at]
end

end Cert.Xchg

end
-- ==== Proof.Same.lean ====
/-
  The kernel computes the reference: every device's result array ends at the reference's result.
-/
module

public import proofs.«01_k».proof.Proof.Result
public import proofs.«01_k».proof.Proof.Pre
public import proofs.«01_k».proof.Proof.Eq
public import Idealize.ShloMosaic.Lib.LayoutAt

@[expose] public section

set_option maxRecDepth 16384

noncomputable section

namespace Cert.Xchg

open Cert.KernelIdeal Cert.KernelIdeal.Gen

open Idealize.ShloMosaic
open Idealize.ShloMosaic.TcCoe
open Idealize.SL.Sem
open Cert.Soft (Fin')

variable (X : FVec Ideal Cert.ReferenceIdeal.S1x1024x1024 .f32) (W : FVec Ideal Cert.ReferenceIdeal.S1024x8192 .f32)
  (K V : FVec Ideal Cert.ReferenceIdeal.S1x1024x64x128 .f32) (O : FVec Ideal Cert.ReferenceIdeal.S8192x1024 .f32)

/-- Device `c`'s columns of the query weights. -/
theorem block_cols (c : Fin 8) (t n : Fin 1024) :
    Layout.block ⟨2, ![1024, 1024]⟩ ⟨2, ![1024, 8192]⟩ 1 8 c W (by decide) (ix2 t n) = W (ix2 t (colOf c n)) := by
  rw [Layout.block_apply]
  refine congrArg W (funext fun a => Fin.ext ?_)
  fin_cases a
  · rfl
  · show c.val * 1024 + n.val = 1024 * c.val + n.val; omega

/-- Device `c`'s rows of the output matrix. -/
theorem block_rows (c : Fin 8) (t n : Fin 1024) :
    Layout.block ⟨2, ![1024, 1024]⟩ ⟨2, ![8192, 1024]⟩ 0 8 c O (by decide) (ix2 t n) = O (ix2 (colOf c t) n) := by
  rw [Layout.block_apply]
  refine congrArg O (funext fun a => Fin.ext ?_)
  fin_cases a
  · show c.val * 1024 + t.val = 1024 * c.val + t.val; omega
  · rfl

/-- A column of all of them is in some device's block. -/
theorem col_split (n : Fin 8192) : ∃ (c : Fin 8) (t : Fin 1024), n = colOf c t :=
  ⟨⟨n.1 / 1024, by omega⟩, ⟨n.1 % 1024, by omega⟩, Fin.ext (by simp only; omega)⟩

section
variable (m : (ℓ : Loc nD τ sig) → Buf (Elt Ideal) ℓ)

/-- The devices' arguments are their parts of the whole arrays. -/
structure Parts : Prop where
  x : ∀ (c : Dev nD) i t, argX m c i t = X (ix3 (0 : Fin 1) i t)
  w : ∀ (c : Dev nD) t n, argW m c t n = W (ix2 t (colOf c n))
  k : ∀ (c : Dev nD) j g d, argK m c j g d = K (ix4 (0 : Fin 1) j g d)
  v : ∀ (c : Dev nD) j g d, argV m c j g d = V (ix4 (0 : Fin 1) j g d)
  o : ∀ (c : Dev nD) t n, argO m c t n = O (ix2 (colOf c t) n)

variable {X W K V O m}

/-- The sum of the devices' products is the reference's result. -/
theorem result_same (p : Parts X W K V O m) (h : Cert.Pre_KernelIdeal_finite_KernelIdeal m) (c : Dev nD) :
    out6 (part m) c = Cert.XchgRef.outR (Cert.XchgRef.headsR V (weightsOf X W K)) O := by
  funext y
  obtain ⟨i, n, rfl⟩ : ∃ i n : Fin 1024, y = ix3 (0 : Fin 1) i n := ⟨y 1, y 2, by
    idx_vars y
    rw [Subsingleton.elim y0 0]⟩
  rw [out6_sum, ref_at]
  rw [← parts_eq (fun a b => X (ix3 (0 : Fin 1) a b)) (fun a b => W (ix2 a b)) (fun a b d => K (ix4 (0 : Fin 1) a b d)) (fun a b d => V (ix4 (0 : Fin 1) a b d))
    (fun i t => p.x c i t ▸ (pre_fin m h c).1 i t)
    (fun t n => by obtain ⟨c', t', rfl⟩ := col_split n; exact p.w c' t t' ▸ (pre_fin m h c').2.1 t t')
    (fun j g d => p.k c j g d ▸ (pre_fin m h c).2.2 j g d) scale_fin (fun y => O (ix2 y n)) i]
  refine Finset.sum_congr (M := EReal) rfl fun d _ => (part_at m d i n).trans (Finset.sum_congr (M := EReal) rfl fun t _ => ?_)
  rw [p.o]
  have eq : qV m d = qOf (fun a b => X (ix3 (0 : Fin 1) a b)) (fun a b => W (ix2 a b)) d := by
    funext i n
    unfold qV qOf
    simp only [p.x, p.w]
  rw [eq]
  simp only [p.k, p.v]
end

/-- Over the extended reals the kernel's result is the reference's. -/
theorem same : @Cert.algebraic_KernelIdeal_ReferenceIdeal_pre_finite_KernelIdeal Cert.KernelIdeal.Gen.facts Cert.ReferenceIdeal.Gen.facts preK := by
  intro m g m' g' hpre hag
  have p : Parts (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) m :=
    { x := fun c i t => congrFun (hag c).1 _
      w := fun c t n => (congrFun (hag c).2.1 _).trans (block_cols _ c t n)
      k := fun c j g d => congrFun (hag c).2.2.1 _
      v := fun c j g d => congrFun (hag c).2.2.2.1 _
      o := fun c t n => (congrFun (hag c).2.2.2.2 _).trans (block_rows _ c t n) }
  refine ⟨Cert.ReferenceIdeal.Value.res_main_v33 m' 0, (θ_run (Cert.KernelIdeal.defs (F := Ideal)) _ _).mono (fun r h c => ?_) (ends_any m g),
    (θ_run (Cert.ReferenceIdeal.defs (F := Ideal)) _ _).mono (fun _ h => h 0) (Cert.ReferenceIdeal.Value.run (F := Ideal) m' g')⟩
  exact ⟨((h.1 c).1.trans (result_array m c)).trans ((result_same p hpre c).trans (Cert.XchgRef.res_eq m' 0).symm), (h.1 c).2⟩

end Cert.Xchg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Pre
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference leaves its arguments alone. -/
theorem frame_reference : @Cert.quiescent_ReferenceIdeal Cert.ReferenceIdeal.Gen.facts := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- All that is claimed. -/
theorem claim : Cert.Claim := ⟨Cert.Kernel.Gen.facts, Cert.KernelIdeal.Gen.facts, Cert.ReferenceIdeal.Gen.facts, Cert.Xchg.preK, Cert.Xchg.preR,
  Cert.Xchg.frame_kernel, Cert.Xchg.frame_ideal, fun m ρ _ => Cert.Xchg.frame_ideal m ρ trivial,
  frame_reference, fun m ρ _ => frame_reference m ρ trivial, trivial, Cert.Xchg.same⟩

end Cert.Proof

end
